-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_capacity [hPre_within_capacity : Cert.Pre_within_capacity.Facts] (m : (ℓ : Loc Cert.KernelIdeal.nD Cert.KernelIdeal.τ Cert.KernelIdeal.sig) → Buf (Elt Ideal) ℓ) : Prop :=
  ∀ c : Dev Cert.KernelIdeal.nD,
    (Cert.Pre_within_capacity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_capacity [hPre_within_capacity : Cert.Pre_within_capacity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_capacity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_within_capacity [hKernelIdeal : Cert.KernelIdeal.Facts] [hPre_within_capacity : Cert.Pre_within_capacity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_capacity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_within_capacity [hReferenceIdeal : Cert.ReferenceIdeal.Facts] [hPre_within_capacity : Cert.Pre_within_capacity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_capacity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_within_capacity [hKernelIdeal : Cert.KernelIdeal.Facts] [hReferenceIdeal : Cert.ReferenceIdeal.Facts] [hPre_within_capacity : Cert.Pre_within_capacity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_capacity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_within_capacity : Cert.Pre_within_capacity.Facts),
    quiescent_Kernel (hKernel := hKernel)
    ∧ quiescent_KernelIdeal (hKernelIdeal := hKernelIdeal)
    ∧ quiescent_KernelIdeal_pre_within_capacity (hKernelIdeal := hKernelIdeal) (hPre_within_capacity := hPre_within_capacity)
    ∧ quiescent_ReferenceIdeal (hReferenceIdeal := hReferenceIdeal)
    ∧ quiescent_ReferenceIdeal_pre_within_capacity (hReferenceIdeal := hReferenceIdeal) (hPre_within_capacity := hPre_within_capacity)
    ∧ preserves_Kernel_KernelIdeal
    ∧ algebraic_KernelIdeal_ReferenceIdeal_pre_within_capacity (hKernelIdeal := hKernelIdeal) (hReferenceIdeal := hReferenceIdeal) (hPre_within_capacity := hPre_within_capacity)
-- ==== Pre_within_capacity.lean ====
abbrev S16x1x512x512 : Shape := ⟨4, ![16, 1, 512, 512]⟩
abbrev S_ : Shape := ⟨0, ![]⟩
abbrev S16x512x512 : Shape := ⟨3, ![16, 512, 512]⟩
abbrev S16x262144 : Shape := ⟨2, ![16, 262144]⟩
abbrev S16 : Shape := ⟨1, ![16]⟩

class Facts : Prop where
  bcast_S_S_ : S_.BroadcastsInDim S_ (![] : Fin 0 → Fin S_.rank)
  reduceWindows_S16x1x512x512_S16x1x512x512_w1s1p0_0_w1s1p0_0_w5s1p2_2_w5s1p2_2 : S16x1x512x512.ReduceWindows (![1, 1, 5, 5] : Fin 4 → Nat) ![1, 1, 1, 1] ![0, 0, 2, 2] ![0, 0, 2, 2] S16x1x512x512
  h_S_ : 0 < S_.numel
  bcast_S_S16x1x512x512 : S_.BroadcastsInDim S16x1x512x512 (![] : Fin 0 → Fin S16x1x512x512.rank)
  shapeCasts_S16x1x512x512_S16x512x512 : S16x1x512x512.ShapeCasts S16x512x512
  shapeCasts_S16x512x512_S16x262144 : S16x512x512.ShapeCasts S16x262144
  natLt_1_32 : 1 < 32
  reducesTo_S16x262144_S16_d1 : S16x262144.ReducesTo [1] S16
  bcast_S_S16 : S_.BroadcastsInDim S16 (![] : Fin 0 → Fin S16.rank)
  reducesTo_S16_S_d0 : S16.ReducesTo [0] S_

variable [Facts]

def fn {F : FTy → Type} [FloatOps F] (main_arg0 : FVec F S16x1x512x512 .f32) : IVec S_ 1 :=
  let main_cst : FVec F S_ .f32 := constant S_ .f32 0xFF800000#32
  let main_v0 : FVec F S_ .f32 := broadcastInDim S_ ![] bcast_S_S_ main_cst
  let main_v1 : FVec F S16x1x512x512 .f32 := (fun x v => Host.reduceWindow FloatOps.maximumf ![1, 1, 5, 5] ![1, 1, 1, 1] ![0, 0, 2, 2] ![0, 0, 2, 2] x v reduceWindows_S16x1x512x512_S16x1x512x512_w1s1p0_0_w1s1p0_0_w5s1p2_2_w5s1p2_2 h_S_) main_arg0 main_v0
  let main_v2 : IVec S16x1x512x512 1 := cmpf .oeq main_arg0 main_v1
  let main_cst_0 : FVec F S_ .f32 := constant S_ .f32 0x3D4CCCCD#32
  let main_v3 : FVec F S16x1x512x512 .f32 := broadcastInDim S16x1x512x512 ![] bcast_S_S16x1x512x512 main_cst_0
  let main_v4 : IVec S16x1x512x512 1 := cmpf .ogt main_arg0 main_v3
  let main_v5 : IVec S16x1x512x512 1 := andi main_v2 main_v4
  let main_v6 : IVec S16x512x512 1 := shapeCast S16x512x512 main_v5 shapeCasts_S16x1x512x512_S16x512x512
  let main_v7 : IVec S16x262144 1 := shapeCast S16x262144 main_v6 shapeCasts_S16x512x512_S16x262144
  let main_v8 : IVec S16x262144 32 := (extui 32 · natLt_1_32) main_v7
  let main_c : IVec S_ 32 := constantI S_ 32 0#32
  let main_v9 : IVec S16 32 := (fun x v => Host.reduce IntOp.addi x v reducesTo_S16x262144_S16_d1 h_S_) main_v8 main_c
  let main_c_1 : IVec S_ 32 := constantI S_ 32 16384#32
  let main_v10 : IVec S16 32 := broadcastInDim S16 ![] bcast_S_S16 main_c_1
  let main_v11 : IVec S16 1 := cmpi .sle main_v9 main_v10
  let main_c_2 : IVec S_ 1 := constantI S_ 1 1#1
  let main_v12 : IVec S_ 1 := (fun x v => Host.reduce IntOp.andi x v reducesTo_S16_S_d0 h_S_) main_v11 main_c_2
  main_v12
-- ==== Kernel.lean ====
abbrev S16x1x512x512 : Shape := ⟨4, ![16, 1, 512, 512]⟩
abbrev S16x512x512 : Shape := ⟨3, ![16, 512, 512]⟩
abbrev S1x512x512 : Shape := ⟨3, ![1, 512, 512]⟩
abbrev S512x512 : Shape := ⟨2, ![512, 512]⟩
abbrev S511x512 : Shape := ⟨2, ![511, 512]⟩
abbrev S1x512 : Shape := ⟨2, ![1, 512]⟩
abbrev S510x512 : Shape := ⟨2, ![510, 512]⟩
abbrev S2x512 : Shape := ⟨2, ![2, 512]⟩
abbrev S512x511 : Shape := ⟨2, ![512, 511]⟩
abbrev S512x1 : Shape := ⟨2, ![512, 1]⟩
abbrev S512x510 : Shape := ⟨2, ![512, 510]⟩
abbrev S512x2 : Shape := ⟨2, ![512, 2]⟩
abbrev S16x262144 : Shape := ⟨2, ![16, 262144]⟩
abbrev S16x4096 : Shape := ⟨2, ![16, 4096]⟩
abbrev S_ : Shape := ⟨0, ![]⟩
abbrev S16x4096x1 : Shape := ⟨3, ![16, 4096, 1]⟩
abbrev S16x4096x2 : Shape := ⟨3, ![16, 4096, 2]⟩

abbrev nBuf : Space → Nat
  | .hbm => 63
  | .vmem => 4
  | .smem => 0
  | _ => 0

abbrev bufTy : (tb : Table) → Fin (tcTables nBuf tb) → BufTy
  | .hbm, ⟨0, _⟩ => ⟨S16x1x512x512, .f32⟩
  | .hbm, ⟨1, _⟩ => ⟨S16x512x512, .f32⟩
  | .hbm, ⟨2, _⟩ => ⟨S16x512x512, .f32⟩
  | .hbm, ⟨3, _⟩ => ⟨S16x262144, .f32⟩
  | .hbm, ⟨4, _⟩ => ⟨S16x4096, .f32⟩
  | .hbm, ⟨5, _⟩ => ⟨S16x4096, .i32⟩
  | .hbm, ⟨6, _⟩ => ⟨S_, .f32⟩
  | .hbm, ⟨7, _⟩ => ⟨S16x4096, .f32⟩
  | .hbm, ⟨8, _⟩ => ⟨S16x4096, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S16x4096, .i32⟩
  | .hbm, ⟨16, _⟩ => ⟨S16x4096, .i32⟩
  | .hbm, ⟨17, _⟩ => ⟨S_, .i32⟩
  | .hbm, ⟨18, _⟩ => ⟨S16x4096, .i32⟩
  | .hbm, ⟨19, _⟩ => ⟨S16x4096, .i1⟩
  | .hbm, ⟨20, _⟩ => ⟨S_, .i32⟩
  | .hbm, ⟨21, _⟩ => ⟨S16x4096, .i32⟩
  | .hbm, ⟨22, _⟩ => ⟨S16x4096, .i1⟩
  | .hbm, ⟨23, _⟩ => ⟨S_, .i32⟩
  | .hbm, ⟨24, _⟩ => ⟨S_, .i1⟩
  | .hbm, ⟨25, _⟩ => ⟨S16x4096, .i1⟩
  | .hbm, ⟨26, _⟩ => ⟨S16x4096, .i1⟩
  | .hbm, ⟨27, _⟩ => ⟨S16x4096, .i1⟩
  | .hbm, ⟨28, _⟩ => ⟨S16x4096, .i32⟩
  | .hbm, ⟨29, _⟩ => ⟨S16x4096, .i32⟩
  | .hbm, ⟨30, _⟩ => ⟨S16x4096, .i32⟩
  | .hbm, ⟨31, _⟩ => ⟨S_, .i32⟩
  | .hbm, ⟨32, _⟩ => ⟨S_, .i32⟩
  | .hbm, ⟨33, _⟩ => ⟨S16x4096, .i32⟩
  | .hbm, ⟨34, _⟩ => ⟨S16x4096, .i32⟩
  | .hbm, ⟨35, _⟩ => ⟨S_, .i32⟩
  | .hbm, ⟨36, _⟩ => ⟨S_, .i32⟩
  | .hbm, ⟨37, _⟩ => ⟨S16x4096, .i32⟩
  | .hbm, ⟨38, _⟩ => ⟨S16x4096, .i32⟩
  | .hbm, ⟨39, _⟩ => ⟨S16x4096, .i32⟩
  | .hbm, ⟨40, _⟩ => ⟨S_, .i32⟩
  | .hbm, ⟨41, _⟩ => ⟨S16x4096, .i32⟩
  | .hbm, ⟨42, _⟩ => ⟨S16x4096, .i1⟩
  | .hbm, ⟨43, _⟩ => ⟨S16x4096, .i32⟩
  | .hbm, ⟨44, _⟩ => ⟨S16x4096, .i32⟩
  | .hbm, ⟨45, _⟩ => ⟨S_, .i32⟩
  | .hbm, ⟨46, _⟩ => ⟨S16x4096, .i32⟩
  | .hbm, ⟨47, _⟩ => ⟨S16x4096, .i1⟩
  | .hbm, ⟨48, _⟩ => ⟨S16x4096, .i1⟩
  | .hbm, ⟨49, _⟩ => ⟨S_, .i32⟩
  | .hbm, ⟨50, _⟩ => ⟨S16x4096, .i32⟩
  | .hbm, ⟨51, _⟩ => ⟨S16x4096, .i32⟩
  | .hbm, ⟨52, _⟩ => ⟨S16x4096, .i32⟩
  | .hbm, ⟨53, _⟩ => ⟨S_, .i32⟩
  | .hbm, ⟨54, _⟩ => ⟨S_, .i32⟩
  | .hbm, ⟨55, _⟩ => ⟨S16x4096, .i32⟩
  | .hbm, ⟨56, _⟩ => ⟨S16x4096, .i32⟩
  | .hbm, ⟨57, _⟩ => ⟨S_, .f32⟩
  | .hbm, ⟨58, _⟩ => ⟨S16x4096, .f32⟩
  | .hbm, ⟨59, _⟩ => ⟨S16x4096, .f32⟩
  | .hbm, ⟨60, _⟩ => ⟨S16x4096x1, .i32⟩
  | .hbm, ⟨61, _⟩ => ⟨S16x4096x1, .i32⟩
  | .hbm, ⟨62, _⟩ => ⟨S16x4096x2, .i32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v5 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_v6 : Ref sig .tc := ⟨.hbm, 34, rfl⟩
abbrev main_c_1 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v7 : Ref sig .tc := ⟨.hbm, 52, rfl⟩
abbrev main_c_2 : Ref sig .tc := ⟨.hbm, 53, rfl⟩
abbrev main_call3_v0 : Ref sig .tc := ⟨.hbm, 54, rfl⟩
abbrev main_call3_v1 : Ref sig .tc := ⟨.hbm, 55, rfl⟩
abbrev main_v8 : Ref sig .tc := ⟨.hbm, 56, rfl⟩
abbrev main_cst_3 : Ref sig .tc := ⟨.hbm, 57, rfl⟩
abbrev main_call4_v0 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x1x512x512 : Shape := ⟨4, ![16, 1, 512, 512]⟩
abbrev S_ : Shape := ⟨0, ![]⟩
abbrev S16x512x512 : Shape := ⟨3, ![16, 512, 512]⟩
abbrev S16x262144 : Shape := ⟨2, ![16, 262144]⟩
abbrev S16x16384 : Shape := ⟨2, ![16, 16384]⟩
abbrev S16 : Shape := ⟨1, ![16]⟩
abbrev S16x1 : Shape := ⟨2, ![16, 1]⟩
abbrev S16x262144x1 : Shape := ⟨3, ![16, 262144, 1]⟩
abbrev S16x262144x2 : Shape := ⟨3, ![16, 262144, 2]⟩
abbrev S16384 : Shape := ⟨1, ![16384]⟩
abbrev S1x16384 : Shape := ⟨2, ![1, 16384]⟩
abbrev S1 : Shape := ⟨1, ![1]⟩
abbrev S16x16384x1 : Shape := ⟨3, ![16, 16384, 1]⟩
abbrev S16x16384x2 : Shape := ⟨3, ![16, 16384, 2]⟩
abbrev S16x16384x4 : Shape := ⟨3, ![16, 16384, 4]⟩
abbrev S1x1x1 : Shape := ⟨3, ![1, 1, 1]⟩
abbrev S16x4096 : Shape := ⟨2, ![16, 4096]⟩
abbrev S16x4096x1 : Shape := ⟨3, ![16, 4096, 1]⟩
abbrev S16x4096x2 : Shape := ⟨3, ![16, 4096, 2]⟩

abbrev nBuf : Space → Nat
  | .hbm => 274
  | .vmem => 0
  | .smem => 0
  | _ => 0

abbrev hbmTy0_0 (i : Nat) : BufTy := match i % 128 with
  | 0 => ⟨S16x1x512x512, .f32⟩
  | 1 => ⟨S_, .f32⟩
  | 2 => ⟨S_, .f32⟩
  | 3 => ⟨S16x1x512x512, .f32⟩
  | 4 => ⟨S16x1x512x512, .i1⟩
  | 5 => ⟨S_, .f32⟩
  | 6 => ⟨S16x1x512x512, .f32⟩
  | 7 => ⟨S16x1x512x512, .i1⟩
  | 8 => ⟨S16x1x512x512, .i1⟩
  | 9 => ⟨S16x512x512, .i1⟩
  | 10 => ⟨S16x262144, .i1⟩
  | 11 => ⟨S16x262144, .i32⟩
  | 12 => ⟨S_, .i32⟩
  | 13 => ⟨S_, .i32⟩
  | 14 => ⟨S16x262144, .i32⟩
  | 15 => ⟨S_, .i32⟩
  | 16 => ⟨S16x16384, .i32⟩
  | 17 => ⟨S16, .i32⟩
  | 18 => ⟨S_, .i32⟩
  | 19 => ⟨S16, .i32⟩
  | 20 => ⟨S16, .i32⟩
  | 21 => ⟨S_, .i32⟩
  | 22 => ⟨S16, .i32⟩
  | 23 => ⟨S16, .i32⟩
  | 24 => ⟨S16x1, .i32⟩
  | 25 => ⟨S_, .i32⟩
  | 26 => ⟨S16x1, .i32⟩
  | 27 => ⟨S16x1, .i1⟩
  | 28 => ⟨S_, .i32⟩
  | 29 => ⟨S16x1, .i32⟩
  | 30 => ⟨S16x1, .i32⟩
  | 31 => ⟨S16x1, .i32⟩
  | 32 => ⟨S_, .i32⟩
  | 33 => ⟨S16x262144, .i32⟩
  | 34 => ⟨S16x262144, .i1⟩
  | 35 => ⟨S_, .i32⟩
  | 36 => ⟨S16x262144, .i32⟩
  | 37 => ⟨S16x262144, .i32⟩
  | 38 => ⟨S16x262144, .i32⟩
  | 39 => ⟨S16x262144, .i32⟩
  | 40 => ⟨S16x262144x1, .i32⟩
  | 41 => ⟨S16x262144x1, .i32⟩
  | 42 => ⟨S16x262144x2, .i32⟩
  | 43 => ⟨S_, .i32⟩
  | 44 => ⟨S16x262144, .i32⟩
  | 45 => ⟨S16x16384, .i32⟩
  | 46 => ⟨S_, .i32⟩
  | 47 => ⟨S_, .i32⟩
  | 48 => ⟨S16x16384, .i32⟩
  | 49 => ⟨S_, .i32⟩
  | 50 => ⟨S_, .i32⟩
  | 51 => ⟨S16x16384, .i32⟩
  | 52 => ⟨S16x16384, .i32⟩
  | 53 => ⟨S16x16384, .i32⟩
  | 54 => ⟨S_, .i32⟩
  | 55 => ⟨S16x16384, .i32⟩
  | 56 => ⟨S16x16384, .i1⟩
  | 57 => ⟨S16x16384, .i32⟩
  | 58 => ⟨S16x16384, .i32⟩
  | 59 => ⟨S_, .i32⟩
  | 60 => ⟨S16x16384, .i32⟩
  | 61 => ⟨S16x16384, .i1⟩
  | 62 => ⟨S16x16384, .i1⟩
  | 63 => ⟨S_, .i32⟩
  | 64 => ⟨S16x16384, .i32⟩
  | 65 => ⟨S16x16384, .i32⟩
  | 66 => ⟨S16x16384, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S16x16384, .i32⟩
  | 74 => ⟨S16x16384, .i32⟩
  | 75 => ⟨S_, .i32⟩
  | 76 => ⟨S16x16384, .i32⟩
  | 77 => ⟨S16x16384, .i1⟩
  | 78 => ⟨S_, .i32⟩
  | 79 => ⟨S16x16384, .i32⟩
  | 80 => ⟨S16x16384, .i1⟩
  | 81 => ⟨S_, .i32⟩
  | 82 => ⟨S_, .i1⟩
  | 83 => ⟨S16x16384, .i1⟩
  | 84 => ⟨S16x16384, .i1⟩
  | 85 => ⟨S16x16384, .i1⟩
  | 86 => ⟨S16x16384, .i32⟩
  | 87 => ⟨S16x16384, .i32⟩
  | 88 => ⟨S16x16384, .i32⟩
  | 89 => ⟨S_, .i32⟩
  | 90 => ⟨S_, .i32⟩
  | 91 => ⟨S16x16384, .i32⟩
  | 92 => ⟨S16x16384, .i32⟩
  | 93 => ⟨S16x16384, .i32⟩
  | 94 => ⟨S_, .i32⟩
  | 95 => ⟨S16x16384, .i32⟩
  | 96 => ⟨S16x16384, .i1⟩
  | 97 => ⟨S16x16384, .i32⟩
  | 98 => ⟨S16x16384, .i32⟩
  | 99 => ⟨S_, .i32⟩
  | 100 => ⟨S16x16384, .i32⟩
  | 101 => ⟨S16x16384, .i1⟩
  | 102 => ⟨S16x16384, .i1⟩
  | 103 => ⟨S_, .i32⟩
  | 104 => ⟨S16x16384, .i32⟩
  | 105 => ⟨S16x16384, .i32⟩
  | 106 => ⟨S16x16384, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S16x16384, .i32⟩
  | 114 => ⟨S16x16384, .i32⟩
  | 115 => ⟨S_, .i32⟩
  | 116 => ⟨S16x16384, .i32⟩
  | 117 => ⟨S16x16384, .i1⟩
  | 118 => ⟨S_, .i32⟩
  | 119 => ⟨S16x16384, .i32⟩
  | 120 => ⟨S16x16384, .i1⟩
  | 121 => ⟨S_, .i32⟩
  | 122 => ⟨S_, .i1⟩
  | 123 => ⟨S16x16384, .i1⟩
  | 124 => ⟨S16x16384, .i1⟩
  | 125 => ⟨S16x16384, .i1⟩
  | 126 => ⟨S16x16384, .i32⟩
  | 127 => ⟨S16x16384, .i32⟩
  | _ => ⟨S16x1x512x512, .f32⟩

abbrev hbmTy0_1 (i : Nat) : BufTy := match i % 128 with
  | 0 => ⟨S16x16384, .i32⟩
  | 1 => ⟨S16x262144, .i32⟩
  | 2 => ⟨S_, .i32⟩
  | 3 => ⟨S16, .i32⟩
  | 4 => ⟨S16x1, .i32⟩
  | 5 => ⟨S16384, .i32⟩
  | 6 => ⟨S1x16384, .i32⟩
  | 7 => ⟨S16x16384, .i32⟩
  | 8 => ⟨S16x16384, .i32⟩
  | 9 => ⟨S16x16384, .i1⟩
  | 10 => ⟨S_, .i32⟩
  | 11 => ⟨S1, .i32⟩
  | 12 => ⟨S16x16384, .i32⟩
  | 13 => ⟨S16x16384, .i32⟩
  | 14 => ⟨S_, .i32⟩
  | 15 => ⟨S1, .i32⟩
  | 16 => ⟨S16x16384, .i32⟩
  | 17 => ⟨S16x16384, .i32⟩
  | 18 => ⟨S16x16384x1, .i32⟩
  | 19 => ⟨S16x16384x1, .i32⟩
  | 20 => ⟨S16x16384x2, .i32⟩
  | 21 => ⟨S16, .i32⟩
  | 22 => ⟨S16x1, .i32⟩
  | 23 => ⟨S16x16384x1, .i32⟩
  | 24 => ⟨S16x16384, .i32⟩
  | 25 => ⟨S16x16384x1, .i32⟩
  | 26 => ⟨S16x16384, .i32⟩
  | 27 => ⟨S_, .i32⟩
  | 28 => ⟨S16x1, .i32⟩
  | 29 => ⟨S16x1, .i1⟩
  | 30 => ⟨S_, .i32⟩
  | 31 => ⟨S16x1, .i32⟩
  | 32 => ⟨S16x1, .i32⟩
  | 33 => ⟨S16x1, .i32⟩
  | 34 => ⟨S_, .i32⟩
  | 35 => ⟨S16x16384, .i32⟩
  | 36 => ⟨S16x16384, .i1⟩
  | 37 => ⟨S_, .i32⟩
  | 38 => ⟨S16x16384, .i32⟩
  | 39 => ⟨S16x16384, .i32⟩
  | 40 => ⟨S16x16384, .i32⟩
  | 41 => ⟨S_, .i32⟩
  | 42 => ⟨S16x16384, .i32⟩
  | 43 => ⟨S16x16384, .i1⟩
  | 44 => ⟨S_, .i32⟩
  | 45 => ⟨S16x16384, .i32⟩
  | 46 => ⟨S16x16384, .i32⟩
  | 47 => ⟨S16x16384, .i32⟩
  | 48 => ⟨S16x16384, .i32⟩
  | 49 => ⟨S_, .i32⟩
  | 50 => ⟨S16x16384, .i32⟩
  | 51 => ⟨S16x16384, .i32⟩
  | 52 => ⟨S16x16384x1, .i32⟩
  | 53 => ⟨S16x16384x1, .i32⟩
  | 54 => ⟨S16x16384x1, .i32⟩
  | 55 => ⟨S16x16384x1, .i32⟩
  | 56 => ⟨S16x16384x4, .i32⟩
  | 57 => ⟨S16x16384, .f32⟩
  | 58 => ⟨S_, .i32⟩
  | 59 => ⟨S16x16384x2, .i32⟩
  | 60 => ⟨S16x16384x2, .i1⟩
  | 61 => ⟨S_, .i1⟩
  | 62 => ⟨S16x16384, .i1⟩
  | 63 => ⟨S_, .f32⟩
  | 64 => ⟨S16x16384, .f32⟩
  | 65 => ⟨S16x16384, .f32⟩
  | 66 => ⟨S16x16384, .f32⟩
  | 67 => ⟨S16x16384, .i32⟩
  | 68 => ⟨S16x16384, .f32⟩
  | 69 => ⟨S16x16384, .i32⟩
  | 70 => ⟨S16x16384x1, .i32⟩
  | 71 => ⟨S16x16384, .i32⟩
  | 72 => ⟨S_, .i32⟩
  | 73 => ⟨S16x16384, .i32⟩
  | 74 => ⟨S16x16384, .i1⟩
  | 75 => ⟨S_, .i32⟩
  | 76 => ⟨S16x16384, .i32⟩
  | 77 => ⟨S16x16384, .i32⟩
  | 78 => ⟨S16x16384, .i32⟩
  | 79 => ⟨S16x16384x1, .i32⟩
  | 80 => ⟨S1, .i32⟩
  | 81 => ⟨S_, .i32⟩
  | 82 => ⟨S16x16384x1, .i32⟩
  | 83 => ⟨S16x16384x1, .i1⟩
  | 84 => ⟨S1x1x1, .i32⟩
  | 85 => ⟨S16x16384x1, .i32⟩
  | 86 => ⟨S16x16384x1, .i1⟩
  | 87 => ⟨S16x16384x1, .i1⟩
  | 88 => ⟨S_, .i1⟩
  | 89 => ⟨S16x16384, .i1⟩
  | 90 => ⟨S16x16384, .i32⟩
  | 91 => ⟨S_, .i32⟩
  | 92 => ⟨S16x16384, .i32⟩
  | 93 => ⟨S16x16384, .i32⟩
  | 94 => ⟨S16x4096, .i32⟩
  | 95 => ⟨S16x16384x1, .i32⟩
  | 96 => ⟨S16x16384, .i32⟩
  | 97 => ⟨S_, .i32⟩
  | 98 => ⟨S16x16384, .i32⟩
  | 99 => ⟨S16x16384, .i1⟩
  | 100 => ⟨S_, .i32⟩
  | 101 => ⟨S16x16384, .i32⟩
  | 102 => ⟨S16x16384, .i32⟩
  | 103 => ⟨S16x16384, .i32⟩
  | 104 => ⟨S16x16384x1, .i32⟩
  | 105 => ⟨S1, .i32⟩
  | 106 => ⟨S_, .i32⟩
  | 107 => ⟨S16x16384x1, .i32⟩
  | 108 => ⟨S16x16384x1, .i1⟩
  | 109 => ⟨S1x1x1, .i32⟩
  | 110 => ⟨S16x16384x1, .i32⟩
  | 111 => ⟨S16x16384x1, .i1⟩
  | 112 => ⟨S16x16384x1, .i1⟩
  | 113 => ⟨S_, .i1⟩
  | 114 => ⟨S16x16384, .i1⟩
  | 115 => ⟨S16x16384, .i32⟩
  | 116 => ⟨S_, .i32⟩
  | 117 => ⟨S16x16384, .i32⟩
  | 118 => ⟨S16x16384, .i32⟩
  | 119 => ⟨S16x4096, .i32⟩
  | 120 => ⟨S16x4096x1, .i32⟩
  | 121 => ⟨S16x4096x1, .i32⟩
  | 122 => ⟨S16x4096x2, .i32⟩
  | 123 => ⟨S_, .i32⟩
  | 124 => ⟨S16x16384, .i32⟩
  | 125 => ⟨S16x16384, .i1⟩
  | 126 => ⟨S_, .i32⟩
  | 127 => ⟨S16x16384, .i32⟩
  | _ => ⟨S16x1x512x512, .f32⟩

abbrev hbmTy0_2 (i : Nat) : BufTy := match i % 128 with
  | 0 => ⟨S16x16384, .i32⟩
  | 1 => ⟨S16x16384, .i32⟩
  | 2 => ⟨S16x16384x1, .i32⟩
  | 3 => ⟨S1, .i32⟩
  | 4 => ⟨S_, .i32⟩
  | 5 => ⟨S16x16384x1, .i32⟩
  | 6 => ⟨S16x16384x1, .i1⟩
  | 7 => ⟨S1x1x1, .i32⟩
  | 8 => ⟨S16x16384x1, .i32⟩
  | 9 => ⟨S16x16384x1, .i1⟩
  | 10 => ⟨S16x16384x1, .i1⟩
  | 11 => ⟨S_, .i1⟩
  | 12 => ⟨S16x16384, .i1⟩
  | 13 => ⟨S16x16384, .f32⟩
  | 14 => ⟨S_, .f32⟩
  | 15 => ⟨S16x16384, .f32⟩
  | 16 => ⟨S16x16384, .f32⟩
  | 17 => ⟨S16x4096, .f32⟩
  | _ => ⟨S16x1x512x512, .f32⟩

abbrev hbmTy (i : Nat) : BufTy := match i / 128 with
  | 0 => hbmTy0_0 i
  | 1 => hbmTy0_1 i
  | 2 => hbmTy0_2 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_call1_call0_c : Ref sig .tc := ⟨.hbm, 46, rfl⟩
abbrev main_call1_call0_v0 : Ref sig .tc := ⟨.hbm, 47, rfl⟩
abbrev main_v32 : Ref sig .tc := ⟨.hbm, 48, rfl⟩
abbrev main_c_8 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v33 : Ref sig .tc := ⟨.hbm, 66, rfl⟩
abbrev main_c_9 : Ref sig .tc := ⟨.hbm, 67, rfl⟩
abbrev main_call3_v0 : Ref sig .tc := ⟨.hbm, 68, rfl⟩
abbrev main_call3_c : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_c_1 : Ref sig .tc := ⟨.hbm, 75, rfl⟩
abbrev main_call3_v5 : Ref sig .tc := ⟨.hbm, 76, rfl⟩
abbrev main_call3_v6 : Ref sig .tc := ⟨.hbm, 77, rfl⟩
abbrev main_call3_c_2 : Ref sig .tc := ⟨.hbm, 78, rfl⟩
abbrev main_call3_v7 : Ref sig .tc := ⟨.hbm, 79, rfl⟩
abbrev main_call3_v8 : Ref sig .tc := ⟨.hbm, 80, rfl⟩
abbrev main_call3_c_3 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_v12 : Ref sig .tc := ⟨.hbm, 85, rfl⟩
abbrev main_call3_v13 : Ref sig .tc := ⟨.hbm, 86, rfl⟩
abbrev main_call3_v14 : Ref sig .tc := ⟨.hbm, 87, rfl⟩
abbrev main_v34 : Ref sig .tc := ⟨.hbm, 88, rfl⟩
abbrev main_c_10 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_c : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_0 : Ref sig .tc := ⟨.hbm, 103, rfl⟩
abbrev main_call4_v12 : Ref sig .tc := ⟨.hbm, 104, rfl⟩
abbrev main_call4_v13 : Ref sig .tc := ⟨.hbm, 105, rfl⟩
abbrev main_v35 : Ref sig .tc := ⟨.hbm, 106, rfl⟩
abbrev main_c_11 : Ref sig .tc := ⟨.hbm, 107, rfl⟩
abbrev main_call5_v0 : Ref sig .tc := ⟨.hbm, 108, rfl⟩
abbrev main_call5_c : Ref sig .tc := ⟨.hbm, 109, rfl⟩
abbrev main_call5_v1 : Ref sig .tc := ⟨.hbm, 110, rfl⟩
abbrev main_call5_c_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_c_1 : Ref sig .tc := ⟨.hbm, 115, rfl⟩
abbrev main_call5_v5 : Ref sig .tc := ⟨.hbm, 116, rfl⟩
abbrev main_call5_v6 : Ref sig .tc := ⟨.hbm, 117, rfl⟩
abbrev main_call5_c_2 : Ref sig .tc := ⟨.hbm, 118, rfl⟩
abbrev main_call5_v7 : Ref sig .tc := ⟨.hbm, 119, rfl⟩
abbrev main_call5_v8 : Ref sig .tc := ⟨.hbm, 120, rfl⟩
abbrev main_call5_c_3 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_v12 : Ref sig .tc := ⟨.hbm, 125, rfl⟩
abbrev main_call5_v13 : Ref sig .tc := ⟨.hbm, 126, rfl⟩
abbrev main_call5_v14 : Ref sig .tc := ⟨.hbm, 127, rfl⟩
abbrev main_v36 : Ref sig .tc := ⟨.hbm, 128, rfl⟩
abbrev main_v37 : Ref sig .tc := ⟨.hbm, 129, rfl⟩
abbrev main_c_12 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_c_13 : Ref sig .tc := ⟨.hbm, 138, rfl⟩
abbrev main_v45 : Ref sig .tc := ⟨.hbm, 139, rfl⟩
abbrev main_call6_v0 : Ref sig .tc := ⟨.hbm, 140, rfl⟩
abbrev main_v46 : Ref sig .tc := ⟨.hbm, 141, rfl⟩
abbrev main_c_14 : Ref sig .tc := ⟨.hbm, 142, rfl⟩
abbrev main_v47 : Ref sig .tc := ⟨.hbm, 143, rfl⟩
abbrev main_call7_v0 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_c_15 : Ref sig .tc := ⟨.hbm, 155, rfl⟩
abbrev main_v58 : Ref sig .tc := ⟨.hbm, 156, rfl⟩
abbrev main_v59 : Ref sig .tc := ⟨.hbm, 157, rfl⟩
abbrev main_c_16 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_c_17 : Ref sig .tc := ⟨.hbm, 162, rfl⟩
abbrev main_v63 : Ref sig .tc := ⟨.hbm, 163, rfl⟩
abbrev main_v64 : Ref sig .tc := ⟨.hbm, 164, rfl⟩
abbrev main_c_18 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_c_19 : Ref sig .tc := ⟨.hbm, 169, rfl⟩
abbrev main_v68 : Ref sig .tc := ⟨.hbm, 170, rfl⟩
abbrev main_v69 : Ref sig .tc := ⟨.hbm, 171, rfl⟩
abbrev main_c_20 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_c_21 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_c_22 : Ref sig .tc := ⟨.hbm, 186, rfl⟩
abbrev main_v82 : Ref sig .tc := ⟨.hbm, 187, rfl⟩
abbrev main_v83 : Ref sig .tc := ⟨.hbm, 188, rfl⟩
abbrev main_c_23 : Ref sig .tc := ⟨.hbm, 189, rfl⟩
abbrev main_v84 : Ref sig .tc := ⟨.hbm, 190, rfl⟩
abbrev main_cst_24 : Ref sig .tc := ⟨.hbm, 191, rfl⟩
abbrev main_call8_v0 : Ref sig .tc := ⟨.hbm, 192, rfl⟩
abbrev main_v85 : Ref sig .tc := ⟨.hbm, 193, rfl⟩
abbrev main_v86 : Ref sig .tc := ⟨.hbm, 194, rfl⟩
abbrev main_call9_v0 : Ref sig .tc := ⟨.hbm, 195, rfl⟩
abbrev main_call9_v1_0 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_call10_c : Ref sig .tc := ⟨.hbm, 200, rfl⟩
abbrev main_call10_v0 : Ref sig .tc := ⟨.hbm, 201, rfl⟩
abbrev main_call10_v1 : Ref sig .tc := ⟨.hbm, 202, rfl⟩
abbrev main_call10_c_0 : Ref sig .tc := ⟨.hbm, 203, rfl⟩
abbrev main_call10_v2 : Ref sig .tc := ⟨.hbm, 204, rfl⟩
abbrev main_call10_v3 : Ref sig .tc := ⟨.hbm, 205, rfl⟩
abbrev main_call10_v4 : Ref sig .tc := ⟨.hbm, 206, rfl⟩
abbrev main_call10_v5 : Ref sig .tc := ⟨.hbm, 207, rfl⟩
abbrev main_call10_c_1 : Ref sig .tc := ⟨.hbm, 208, rfl⟩
abbrev main_call10_c_2 : Ref sig .tc := ⟨.hbm, 209, rfl⟩
abbrev main_call10_v6 : Ref sig .tc := ⟨.hbm, 210, rfl⟩
abbrev main_call10_v7 : Ref sig .tc := ⟨.hbm, 211, rfl⟩
abbrev main_call10_v8 : Ref sig .tc := ⟨.hbm, 212, rfl⟩
abbrev main_call10_v9 : Ref sig .tc := ⟨.hbm, 213, rfl⟩
abbrev main_call10_v10 : Ref sig .tc := ⟨.hbm, 214, rfl⟩
abbrev main_call10_v11 : Ref sig .tc := ⟨.hbm, 215, rfl⟩
abbrev main_call10_c_3 : Ref sig .tc := ⟨.hbm, 216, rfl⟩
abbrev main_call10_v12 : Ref sig .tc := ⟨.hbm, 217, rfl⟩
abbrev main_call10_v13 : Ref sig .tc := ⟨.hbm, 218, rfl⟩
abbrev main_call10_c_4 : Ref sig .tc := ⟨.hbm, 219, rfl⟩
abbrev main_call10_v14 : Ref sig .tc := ⟨.hbm, 220, rfl⟩
abbrev main_v90 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_call11_c : Ref sig .tc := ⟨.hbm, 225, rfl⟩
abbrev main_call11_v0 : Ref sig .tc := ⟨.hbm, 226, rfl⟩
abbrev main_call11_v1 : Ref sig .tc := ⟨.hbm, 227, rfl⟩
abbrev main_call11_c_0 : Ref sig .tc := ⟨.hbm, 228, rfl⟩
abbrev main_call11_v2 : Ref sig .tc := ⟨.hbm, 229, rfl⟩
abbrev main_call11_v3 : Ref sig .tc := ⟨.hbm, 230, rfl⟩
abbrev main_call11_v4 : Ref sig .tc := ⟨.hbm, 231, rfl⟩
abbrev main_call11_v5 : Ref sig .tc := ⟨.hbm, 232, rfl⟩
abbrev main_call11_c_1 : Ref sig .tc := ⟨.hbm, 233, rfl⟩
abbrev main_call11_c_2 : Ref sig .tc := ⟨.hbm, 234, rfl⟩
abbrev main_call11_v6 : Ref sig .tc := ⟨.hbm, 235, rfl⟩
abbrev main_call11_v7 : Ref sig .tc := ⟨.hbm, 236, rfl⟩
abbrev main_call11_v8 : Ref sig .tc := ⟨.hbm, 237, rfl⟩
abbrev main_call11_v9 : Ref sig .tc := ⟨.hbm, 238, rfl⟩
abbrev main_call11_v10 : Ref sig .tc := ⟨.hbm, 239, rfl⟩
abbrev main_call11_v11 : Ref sig .tc := ⟨.hbm, 240, rfl⟩
abbrev main_call11_c_3 : Ref sig .tc := ⟨.hbm, 241, rfl⟩
abbrev main_call11_v12 : Ref sig .tc := ⟨.hbm, 242, rfl⟩
abbrev main_call11_v13 : Ref sig .tc := ⟨.hbm, 243, rfl⟩
abbrev main_call11_c_4 : Ref sig .tc := ⟨.hbm, 244, rfl⟩
abbrev main_call11_v14 : Ref sig .tc := ⟨.hbm, 245, rfl⟩
abbrev main_v94 : Ref sig .tc := ⟨.hbm, 246, rfl⟩
abbrev main_v95 : Ref sig .tc := ⟨.hbm, 247, rfl⟩
abbrev main_v96 : Ref sig .tc := ⟨.hbm, 248, rfl⟩
abbrev main_v97 : Ref sig .tc := ⟨.hbm, 249, rfl⟩
abbrev main_v98 : Ref sig .tc := ⟨.hbm, 250, rfl⟩
abbrev main_call12_c : Ref sig .tc := ⟨.hbm, 251, rfl⟩
abbrev main_call12_v0 : Ref sig .tc := ⟨.hbm, 252, rfl⟩
abbrev main_call12_v1 : Ref sig .tc := ⟨.hbm, 253, rfl⟩
abbrev main_call12_c_0 : Ref sig .tc := ⟨.hbm, 254, rfl⟩
abbrev main_call12_v2 : Ref sig .tc := ⟨.hbm, 255, rfl⟩
abbrev main_call12_v3 : Ref sig .tc := ⟨.hbm, 256, rfl⟩
abbrev main_call12_v4 : Ref sig .tc := ⟨.hbm, 257, rfl⟩
abbrev main_call12_v5 : Ref sig .tc := ⟨.hbm, 258, rfl⟩
abbrev main_call12_c_1 : Ref sig .tc := ⟨.hbm, 259, rfl⟩
abbrev main_call12_c_2 : Ref sig .tc := ⟨.hbm, 260, rfl⟩
abbrev main_call12_v6 : Ref sig .tc := ⟨.hbm, 261, rfl⟩
abbrev main_call12_v7 : Ref sig .tc := ⟨.hbm, 262, rfl⟩
abbrev main_call12_v8 : Ref sig .tc := ⟨.hbm, 263, rfl⟩
abbrev main_call12_v9 : Ref sig .tc := ⟨.hbm, 264, rfl⟩
abbrev main_call12_v10 : Ref sig .tc := ⟨.hbm, 265, rfl⟩
abbrev main_call12_v11 : Ref sig .tc := ⟨.hbm, 266, rfl⟩
abbrev main_call12_c_3 : Ref sig .tc := ⟨.hbm, 267, rfl⟩
abbrev main_call12_v12 : Ref sig .tc := ⟨.hbm, 268, rfl⟩
abbrev main_call12_v13 : Ref sig .tc := ⟨.hbm, 269, rfl⟩
abbrev main_call12_cst : Ref sig .tc := ⟨.hbm, 270, rfl⟩
abbrev main_call12_v14 : Ref sig .tc := ⟨.hbm, 271, rfl⟩
abbrev main_v99 : Ref sig .tc := ⟨.hbm, 272, rfl⟩
abbrev main_v100 : Ref sig .tc := ⟨.hbm, 273, rfl⟩

abbrev nD : Nat := 1
abbrev τ : Topo := Topo.v7x

variable {F : FTy → Type} [FloatOps F]
-- ==== Proof.Spec.lean ====
module

public import proofs.«01_k».proof.Defs
public import Idealize.ShloMosaic.Lib.IdealHost
public import Idealize.ShloMosaic.Lib.Pointwise

/-!
# What is computed

The mathematics of the problem, with no arrays of the programs in it: an image is a function of a row and a column,
a pixel's number is 512 times its row plus its column, and a peak is a pixel that is the greatest of its 5 by 5
neighbourhood and is above the threshold.
-/

@[expose] public section

namespace Cert.Peaks
open Idealize.ShloMosaic

/-- An image: a value for each row and column. -/
abbrev Image := Fin 512 → Fin 512 → EReal

/-- Two coordinates at most two apart. -/
def Near (a b : Nat) : Prop := b ≤ a + 2 ∧ a ≤ b + 2

/-- The row of pixel number `n`. -/
def row (n : Nat) : Fin 512 := ⟨n / 512 % 512, Nat.mod_lt _ (by decide)⟩

/-- The column of pixel number `n`. -/
def col (n : Nat) : Fin 512 := ⟨n % 512, Nat.mod_lt _ (by decide)⟩

/-- The value of pixel number `n`. -/
def val (f : Image) (n : Nat) : EReal := f (row n) (col n)

/-- The threshold, the float word nearest 0.05. -/
noncomputable def thr : EReal := FloatOps.ofBits (F := Ideal) .f32 0x3D4CCCCD#32

/-- The value that stands for "no peak": −1. -/
noncomputable def low : EReal := FloatOps.ofBits (F := Ideal) .f32 0xBF800000#32

/-- No pixel of the 5 by 5 neighbourhood, cut at the image's edge, is above the pixel. -/
def IsMax (f : Image) (y x : Fin 512) : Prop := ∀ a b : Fin 512, Near y a → Near x b → f a b ≤ f y x

/-- A peak: greatest of its neighbourhood, and above the threshold. -/
def Peak (f : Image) (n : Nat) : Prop := IsMax f (row n) (col n) ∧ thr < val f n

noncomputable instance (f : Image) : DecidablePred (Peak f) := Classical.decPred _

/-- Image `b` of the argument. -/
def image (X : FVec Ideal ⟨4, ![16, 1, 512, 512]⟩ .f32) (b : Fin 16) : Image := fun y x => X (ix4 b 0 y x)

/-- The word of minus infinity is the least value. -/
theorem ofBits_bot : FloatOps.ofBits (F := Ideal) .f32 0xFF800000#32 = (⊥ : EReal) := by
  simp [Ideal.ofBits, Ideal.ieee]

/-- −1 is below the threshold. -/
theorem low_lt_thr : low < thr := by
  unfold low thr
  simp only [Ideal.ofBits_def]
  have h1 : Ideal.ofBits .f32 0xBF800000#32 ≤ ((0 : ℝ) : EReal) := by
    simp [Ideal.ofBits, Ideal.ieee, -EReal.coe_mul, -EReal.coe_neg]
  have h2 : ((0 : ℝ) : EReal) < Ideal.ofBits .f32 0x3D4CCCCD#32 := by
    simp [Ideal.ofBits, Ideal.ieee, -EReal.coe_mul, -EReal.coe_neg]
  exact lt_of_le_of_lt h1 h2

end Cert.Peaks
-- ==== Proof.Block.lean ====
module

public import proofs.«01_k».proof.Proof.Spec
public import proofs.«01_k».proof.Proof.Gen.KernelIdeal.Skeleton
public import Idealize.ShloMosaic.Lib.WordCmp

/-!
# What one block of the kernel computes

A block is one image.  The kernel takes the greatest of five rows, then of five columns, by shifted copies padded
with minus infinity; where a pixel equals that maximum, is above the threshold, and is not pixel 0, it stores the
pixel, and −1 elsewhere.
-/

@[expose] public section

namespace Cert.Peaks
open Idealize.ShloMosaic Idealize.ShloMosaic.WordCmp
open Cert.KernelIdeal Cert.KernelIdeal.Gen

set_option maxRecDepth 16384

/-- The greatest of five neighbours along a line, as the kernel nests the maxima: itself, one on, one back, two on,
    two back, with minus infinity off the line. -/
noncomputable def lineMax (f : Fin 512 → EReal) (y : Fin 512) : EReal :=
  max (max (f y) (max (if h : y.val < 511 then f ⟨1 + y.val, by omega⟩ else ⊥) (if h : y.val < 1 then ⊥ else f ⟨y.val - 1, by omega⟩)))
    (max (if h : y.val < 510 then f ⟨2 + y.val, by omega⟩ else ⊥) (if h : y.val < 2 then ⊥ else f ⟨y.val - 2, by omega⟩))

/-- `lineMax` is the least upper bound of the near values. -/
theorem lineMax_le (f : Fin 512 → EReal) (y : Fin 512) (z : EReal) : lineMax f y ≤ z ↔ ∀ a : Fin 512, Near y a → f a ≤ z := by
  unfold lineMax Near
  simp only [max_le_iff]
  constructor
  · rintro ⟨⟨h0, h1, h2⟩, h3, h4⟩ a ⟨ha, hb⟩
    have hc : a.val = y.val ∨ a.val = 1 + y.val ∨ a.val + 1 = y.val ∨ a.val = 2 + y.val ∨ a.val + 2 = y.val := by omega
    rcases hc with hc | hc | hc | hc | hc
    · rwa [Fin.ext hc]
    · rw [dif_pos (by omega)] at h1; rwa [show a = ⟨1 + y.val, by omega⟩ from Fin.ext hc]
    · rw [dif_neg (by omega)] at h2; rwa [show a = ⟨y.val - 1, by omega⟩ from Fin.ext (by show a.val = y.val - 1; omega)]
    · rw [dif_pos (by omega)] at h3; rwa [show a = ⟨2 + y.val, by omega⟩ from Fin.ext hc]
    · rw [dif_neg (by omega)] at h4; rwa [show a = ⟨y.val - 2, by omega⟩ from Fin.ext (by show a.val = y.val - 2; omega)]
  · intro h
    refine ⟨⟨h y ⟨by omega, by omega⟩, ?_, ?_⟩, ?_, ?_⟩
    · split
      · exact h _ ⟨by show 1 + y.val ≤ _; omega, by show y.val ≤ 1 + y.val + 2; omega⟩
      · exact bot_le
    · split
      · exact bot_le
      · exact h _ ⟨by show y.val - 1 ≤ _; omega, by show y.val ≤ y.val - 1 + 2; omega⟩
    · split
      · exact h _ ⟨by show 2 + y.val ≤ _; omega, by show y.val ≤ 2 + y.val + 2; omega⟩
      · exact bot_le
    · split
      · exact bot_le
      · exact h _ ⟨by show y.val - 2 ≤ _; omega, by show y.val ≤ y.val - 2 + 2; omega⟩

/-- The image that a block holds. -/
def blockImage (X : FVec Ideal S1x512x512 .f32) : Image := fun y x => X (ix3 0 y x)

/-- The block as an array of rows and columns. -/
theorem pay2_apply (X : FVec Ideal S1x512x512 .f32) (y x : Fin 512) :
    k0_pay2 (F := Ideal) X (Idealize.ShloMosaic.ix2 y x) = blockImage X y x := by
  unfold k0_pay2 blockImage
  pointwise

/-- The mask, read at a pixel: the pixel equals the maximum over five columns of the maximum over five rows, and is
    above the threshold. -/
theorem pay3_apply (X : FVec Ideal S1x512x512 .f32) (y x : Fin 512) :
    k0_pay3 (F := Ideal) X (Idealize.ShloMosaic.ix2 y x) =
      IntOp.andi (BitVec.ofBool (decide (blockImage X y x = lineMax (fun b => lineMax (fun a => blockImage X a b) y) x)))
        (BitVec.ofBool (decide (thr < blockImage X y x))) := by
  unfold k0_pay3
  pointwise
  simp only [pay2_apply, ofBits_bot]
  rfl

open Classical in
/-- The mask is set exactly at the peaks. -/
theorem pay3_eq (X : FVec Ideal S1x512x512 .f32) (y x : Fin 512) :
    k0_pay3 (F := Ideal) X (Idealize.ShloMosaic.ix2 y x)
      = BitVec.ofBool (decide (IsMax (blockImage X) y x ∧ thr < blockImage X y x)) := by
  rw [pay3_apply, andi_ofBool, ← Bool.decide_and]
  set M := lineMax (fun b => lineMax (fun a => blockImage X a b) y) x with hM
  have hle : ∀ z, M ≤ z ↔ ∀ a b : Fin 512, Near y a → Near x b → blockImage X a b ≤ z := fun z => by
    rw [hM, lineMax_le]
    constructor
    · exact fun h a b ha hb => (lineMax_le _ _ _).mp (h b hb) a ha
    · exact fun h b hb => (lineMax_le _ _ _).mpr fun a ha => h a b ha hb
  have hself : blockImage X y x ≤ M := (hle M).mp le_rfl y x ⟨by omega, by omega⟩ ⟨by omega, by omega⟩
  have hiff : blockImage X y x = M ↔ IsMax (blockImage X) y x :=
    ⟨fun h => (hle _).mp h.ge, fun h => le_antisymm hself ((hle _).mpr h)⟩
  simp only [hiff]

/-- The corner mask is set exactly at pixel 0. -/
theorem pay4_eq (y x : Fin 512) :
    k0_pay4 (Idealize.ShloMosaic.ix2 y x) = BitVec.ofBool (decide (y.val = 0 ∧ x.val = 0)) := by
  unfold k0_pay4
  pointwise
  rw [cmpi_eq_eq, cmpi_eq_eq, andi_ofBool, ← Bool.decide_and]
  simp only [ofNat_eq_ofNat_iff (w := 32) (a := y.val) (b := 0) (by omega) (by omega),
    ofNat_eq_ofNat_iff (w := 32) (a := x.val) (b := 0) (by omega) (by omega)]

open Classical in
/-- WHAT A BLOCK STORES: the pixel at a peak other than pixel 0, and −1 elsewhere. -/
theorem block_apply (X : FVec Ideal S1x512x512 .f32) (y x : Fin 512) :
    k0_pay1 (F := Ideal) (k0_pay2 (F := Ideal) X) (k0_pay3 (F := Ideal) X) k0_pay4 (ix3 0 y x)
      = if (IsMax (blockImage X) y x ∧ thr < blockImage X y x) ∧ ¬ (y.val = 0 ∧ x.val = 0) then blockImage X y x else low := by
  unfold k0_pay1
  pointwise
  rw [pay3_eq, pay4_eq, pay2_apply, show (1#1 : BitVec 1) = BitVec.ofBool true from rfl, xori_ofBool, andi_ofBool, WordCmp.select_ofBool]
  refine if_congr ?_ rfl rfl
  simp only [Bool.and_eq_true, decide_eq_true_eq, Bool.xor_true, Bool.not_eq_true', decide_eq_false_iff_not]

end Cert.Peaks
-- ==== Proof.Keymap.lean ====
module

public import proofs.«01_k».proof.Proof.Block
public import proofs.«01_k».proof.Proof.Gen.KernelIdeal.Frame
public import Idealize.ShloMosaic.Lib.Pipeline.ValueKit
public import Idealize.ShloMosaic.Lib.Claim
public import Idealize.ShloMosaic.Lib.StableHlo.ReadAt

/-!
# What the kernel's array holds after its sixteen blocks

Block `t` is image `t`, so the array holds, at image `b`, row `y`, column `x`, the key of that pixel.
-/

@[expose] public section

namespace Cert.Peaks
open Idealize.ShloMosaic Idealize.ShloMosaic.WordCmp Idealize.ShloMosaic.TcCoe
open Cert.KernelIdeal Cert.KernelIdeal.Gen

set_option maxRecDepth 16384

variable (m : (ℓ : Loc nD τ sig) → Buf (Elt Ideal) ℓ) (c : Dev nD)

/-- The key of a pixel: its value at a peak other than pixel 0, and −1 elsewhere. -/
noncomputable def keyAt (f : Image) (y x : Fin 512) : EReal := by
  classical exact if (IsMax f y x ∧ thr < f y x) ∧ ¬ (y.val = 0 ∧ x.val = 0) then f y x else low

/-- The kernel's argument, as an array. -/
abbrev argK : FVec Ideal S16x1x512x512 .f32 := m ((c : Thread nD τ).loc main_arg0)

/-- The keys of all images. -/
noncomputable def keymap (X : FVec Ideal S16x1x512x512 .f32) : FVec Ideal S16x512x512 .f32 :=
  fun i => keyAt (image X (i 0)) (i 1) (i 2)

/-- The array that the blocks are cut from is the argument without its axis of size one. -/
theorem entry_apply (b : Fin 16) (y x : Fin 512) : V m c main_v0 (ix3 b y x) = argK m c (ix4 b 0 y x) := by
  unfold V V0
  simp only [List.flatten_cons, List.flatten_nil, List.append_nil]
  unfold hostOps0
  after_reads_at

/-- The block of the `t`-th point starts at image `t`. -/
theorem index0 : ∀ t, win0_0.index t = ![(grid0.coords t 0).val, 0, 0] := by decide +kernel

/-- The `t`-th block is written back at image `t`. -/
theorem index1 : ∀ t, win0_1.index t = ![(grid0.coords t 0).val, 0, 0] := by decide +kernel

/-- The image of a grid point. -/
def imageOf (t : Fin cfg0.N) : Fin 16 := ⟨(grid0.coords t 0).val, (grid0.coords t 0).isLt⟩

/-- Where an element of a block lies in the array that the kernel reads. -/
theorem emb0 (t : Fin cfg0.N) (a b : Fin 512) : ((cfg0.win 0).blk t).view.emb (ix3 (0 : Fin 1) a b) = ix3 (imageOf t) a b := by
  funext i
  refine Fin.ext ?_
  fin_cases i <;> blk_simp [index0] <;> simp [imageOf]

/-- Where an element of a block lies in the array that the kernel writes. -/
theorem emb1 (t : Fin cfg0.N) (a b : Fin 512) : ((cfg0.win 1).blk t).view.emb (ix3 (0 : Fin 1) a b) = ix3 (imageOf t) a b := by
  funext i
  refine Fin.ext ?_
  fin_cases i <;> blk_simp [index1] <;> simp [imageOf]

/-- The block of a grid point is its image. -/
theorem block_image (t : Fin cfg0.N) : blockImage (iblk m c 0 t) = image (argK m c) (imageOf t) := by
  funext a b
  unfold image
  rw [← entry_apply, ← emb0]
  rfl

/-- THE ARRAY AFTER THE BLOCKS holds the keys. -/
theorem keymap_array : (dats m 0 c).arrAt 1 (cfgs 0).N = keymap (argK m c) := by
  refine (dats m 0 c).arrAt_eq_of_covers 1 _ (by decide +kernel) fun t hf y => ?_
  blk_simp
  rw [after0_1]
  frame_out
  obtain ⟨u, a, b, rfl⟩ : ∃ (u : Fin 1) (a b : Fin 512), y = ix3 u a b := ⟨y 0, y 1, y 2, by funext i; fin_cases i <;> rfl⟩
  obtain rfl : u = 0 := Subsingleton.elim _ _
  refine (block_apply (iblk m c 0 t) a b).trans (Eq.trans ?_ (congrArg (keymap (argK m c)) (emb1 t a b).symm))
  rw [block_image]
  rfl

end Cert.Peaks
-- ==== Proof.Words.lean ====
module

public import Idealize.ShloMosaic.Lib.Routing.Words
public import Idealize.ShloMosaic.Lib.Routing.OpsPair

/-!
# Division and remainder of small words

`jnp`'s floor division and remainder correct the machine's quotient and remainder for negative numbers.  On words of
small natural numbers the corrections do nothing.
-/

@[expose] public section

namespace Cert.Peaks
open Idealize.ShloMosaic Idealize.ShloMosaic.Routing Idealize.ShloMosaic.ValueIdx

/-- The divisor as the remainder guards it against zero. -/
abbrev guardWord (d : BitVec 32) : BitVec 32 := Scalar.select (IntOp.cmpi .eq d 0#32) 1#32 d

/-- The remainder on one word. -/
abbrev remWord (x d : BitVec 32) : BitVec 32 :=
  Scalar.select
    (IntOp.andi
      (IntOp.cmpi .ne (IntOp.cmpi .slt (IntOp.remsi .host x (guardWord d)) 0#32) (IntOp.cmpi .slt (guardWord d) 0#32))
      (IntOp.cmpi .ne (IntOp.remsi .host x (guardWord d)) 0#32))
    (IntOp.addi (IntOp.remsi .host x (guardWord d)) (guardWord d)) (IntOp.remsi .host x (guardWord d))

/-- The sign of one word. -/
abbrev signWord (x : BitVec 32) : BitVec 32 := if x = 0 then 0 else if x.msb then -1 else 1

/-- The floor division on one word. -/
abbrev divWord (x d : BitVec 32) : BitVec 32 :=
  Scalar.select
    (IntOp.andi (IntOp.cmpi .ne (signWord x) (signWord d)) (IntOp.cmpi .ne (IntOp.remsi .host x d) 0#32))
    (IntOp.subi (IntOp.divsi .host x d) 1#32) (IntOp.divsi .host x d)

private theorem bcast0 : shape0.BroadcastsInDim shape0 (![] : Fin 0 → Fin shape0.rank) := by decide

/-- On words of small numbers the remainder is the remainder. -/
theorem remWord_ofNat {a b : Nat} (ha : a < 2 ^ 31) (h0 : 0 < b) (hb : b < 2 ^ 31) :
    remWord (BitVec.ofNat 32 a) (BitVec.ofNat 32 b) = BitVec.ofNat 32 (a % b) :=
  pyRem_ap bcast0 (fun _ => BitVec.ofNat 32 a) (fun _ => BitVec.ofNat 32 b) ix0 rfl rfl ha h0 hb

/-- On words of small numbers the floor division is the quotient. -/
theorem divWord_ofNat {a b : Nat} (ha : a < 2 ^ 31) (h0 : 0 < b) (hb : b < 2 ^ 31) :
    divWord (BitVec.ofNat 32 a) (BitVec.ofNat 32 b) = BitVec.ofNat 32 (a / b) :=
  pyDiv_ap bcast0 (fun _ => BitVec.ofNat 32 a) (fun _ => BitVec.ofNat 32 b) ix0 rfl rfl ha h0 hb

end Cert.Peaks
-- ==== Proof.Sort.lean ====
module

public import Idealize.ShloMosaic.Lib.SortPrefix
public import Idealize.ShloMosaic.Lib.Routing.Count
public import Idealize.ShloMosaic.Lib.Pointwise

/-!
# Two stable sorts with the same front

One side sorts all `N` positions of an image by a key that is the pixel value at a peak and a low constant
elsewhere.  The other lists the peaks first, at most `CAP` of them, pads the list with zeros, and sorts the list.
Both sorts are stable and go from high to low.  This file shows that the two sorted lists agree in front: where the
second has a peak, the first has the same peak, and where the second has padding, the first has the low constant.
-/

@[expose] public section

namespace Cert.Peaks
open Idealize.ShloMosaic Idealize.ShloMosaic.Routing

/-- Before, from high to low by `key`, the lower position first among equals. -/
def highFirst {n : Nat} {E : Type} [LinearOrder E] (key : Fin n → E) (k k' : Fin n) : Bool :=
  decide (key k' < key k) || (decide (key k = key k') && decide (k < k'))

/-- `highFirst` never ranks two different positions alike. -/
theorem highFirst_total {n : Nat} {E : Type} [LinearOrder E] (key : Fin n → E) : StrictTotalBefore (highFirst key) :=
  StrictTotalBefore.of_key_then_position (fun a b => decide (b < a)) key (fun a => by simp)
    (fun a b c hab hbc => by simp only [decide_eq_true_eq] at *; exact lt_trans hbc hab)
    (fun a b => by
      simp only [decide_eq_true_eq]
      rcases lt_trichotomy a b with h | h | h
      · exact Or.inr (Or.inr h)
      · exact Or.inr (Or.inl h)
      · exact Or.inl h)

/-- Insertion compares a later element only with the one inserted, so two relations that agree from later to
    earlier sort a list alike. -/
theorem stableSort_eq_of_later {ι : Type} (R T : ι → ι → Bool) (l : List ι) (h : l.Pairwise fun a b => R b a = T b a) :
    stableSort R l = stableSort T l := by
  induction l with
  | nil => rfl
  | cons a l ih =>
    rw [List.pairwise_cons] at h
    unfold stableSort
    rw [ih h.2]
    exact insertBefore_congr R T a _ fun b hb => h.1 b ((perm_stableSort T l).mem_iff.mp hb)

/-- The stable sort from high to low is the sort by `highFirst`. -/
theorem sortedFrom_gt {n : Nat} {E : Type} [LinearOrder E] (key : Fin n → E) :
    sortedFrom (fun k k' => decide (key k' < key k)) = sortedFrom (highFirst key) := by
  have e : sortPositions n (fun k k' => decide (key k' < key k)) = sortPositions n (highFirst key) := by
    refine stableSort_eq_of_later _ _ _ ((List.pairwise_lt_finRange n).imp fun {a b} hab => ?_)
    unfold highFirst
    rw [decide_eq_false (not_lt.mpr hab.le), Bool.and_false, Bool.or_false]
  funext k
  unfold sortedFrom
  rw [List.get_of_eq e]
  rfl

/-- No later entry of the sort is before an earlier one. -/
theorem sorted_order {n : Nat} {E : Type} [LinearOrder E] (key : Fin n → E) (i j : Fin n) (hij : i < j) :
    highFirst key (sortedFrom (highFirst key) j) (sortedFrom (highFirst key) i) = false :=
  sortedFrom_noInversion _ _ (fun a b h => (highFirst_total key).asymm a b h) (fun _ _ h => h)
    (highFirst_total key).negTrans i j hij

/-- What `highFirst` says when it is false: the key is not higher, and among equals the position is not lower. -/
theorem highFirst_false {n : Nat} {E : Type} [LinearOrder E] {key : Fin n → E} {k k' : Fin n} :
    highFirst key k k' = false ↔ key k ≤ key k' ∧ (key k = key k' → k' ≤ k) := by
  unfold highFirst
  simp only [Bool.or_eq_false_iff, decide_eq_false_iff_not, not_lt, Bool.and_eq_false_iff]
  constructor
  · rintro ⟨h1, h2⟩
    exact ⟨h1, fun e => by rcases h2 with h2 | h2; exacts [absurd e h2, h2]⟩
  · rintro ⟨h1, h2⟩
    exact ⟨h1, by by_cases e : key k = key k'; exacts [Or.inr (h2 e), Or.inl e]⟩

/-- Moving along the second axis of a rank-two index replaces its second coordinate. -/
theorem along_ix2 {n0 n1 : Nat} (a : Fin n0) (b k : Fin n1) (hd : 1 < 2) :
    Shape.Idx.along (s := ⟨2, ![n0, n1]⟩) (ix2 a b) ⟨1, hd⟩ k = ix2 a k := by
  funext i
  fin_cases i
  · exact Function.update_of_ne (show (0 : Fin 2) ≠ 1 by decide) _ _
  · exact Function.update_self _ _ _

/-- A sort of two arrays along their rows reads both at the place that the row's sort gives. -/
theorem sort2_ix2 {R n : Nat} {α β : Type} (cmp : α × β → α × β → BitVec 1) (x : (⟨2, ![R, n]⟩ : Shape).Idx → α)
    (y : (⟨2, ![R, n]⟩ : Shape).Idx → β) (b : Fin R) (k : Fin n) :
    (Host.sort2 ⟨2, ![R, n]⟩ 1 cmp x y).1 (ix2 b k)
        = x (ix2 b (sortedFrom (fun k₁ k₂ => cmp (x (ix2 b k₁), y (ix2 b k₁)) (x (ix2 b k₂), y (ix2 b k₂)) == 1#1) k)) ∧
      (Host.sort2 ⟨2, ![R, n]⟩ 1 cmp x y).2 (ix2 b k)
        = y (ix2 b (sortedFrom (fun k₁ k₂ => cmp (x (ix2 b k₁), y (ix2 b k₁)) (x (ix2 b k₂), y (ix2 b k₂)) == 1#1) k)) := by
  have hd : 1 < 2 := by decide
  have h : ∀ k' : Fin n, Shape.Idx.along (s := ⟨2, ![R, n]⟩) (ix2 b k) ⟨1, hd⟩ k' = ix2 b k' := fun k' => along_ix2 b k k' hd
  have hle : (fun k₁ k₂ : Fin n => cmp (x (Shape.Idx.along (s := ⟨2, ![R, n]⟩) (ix2 b k) ⟨1, hd⟩ k₁),
        y (Shape.Idx.along (s := ⟨2, ![R, n]⟩) (ix2 b k) ⟨1, hd⟩ k₁))
      (x (Shape.Idx.along (s := ⟨2, ![R, n]⟩) (ix2 b k) ⟨1, hd⟩ k₂),
        y (Shape.Idx.along (s := ⟨2, ![R, n]⟩) (ix2 b k) ⟨1, hd⟩ k₂)) == 1#1)
      = fun k₁ k₂ => cmp (x (ix2 b k₁), y (ix2 b k₁)) (x (ix2 b k₂), y (ix2 b k₂)) == 1#1 := by
    funext k₁ k₂
    rw [h k₁, h k₂]
  have hall := (congrArg (fun le => Shape.Idx.along (s := ⟨2, ![R, n]⟩) (ix2 b k) ⟨1, hd⟩ (sortedFrom le k)) hle).trans (h _)
  unfold Host.sort2
  rw [dif_pos (show 1 < (⟨2, ![R, n]⟩ : Shape).rank from hd)]
  exact ⟨congrArg x hall, congrArg y hall⟩

/-- The `j`-th number below `N` with `P`, from 0, and 0 from the count on: the padded list of the numbers with `P`. -/
def listed (P : Nat → Prop) [DecidablePred P] (N j : Nat) : Nat :=
  if j < Nat.count P N then Nat.count (fun i => Nat.count P (i + 1) ≤ j) N else 0

section Listed
variable (P : Nat → Prop) [DecidablePred P] (N : Nat)

/-- A listed number is below `N`, has `P`, and has as many numbers with `P` below it as its place in the list. -/
theorem listed_spec {j : Nat} (hj : j < Nat.count P N) : listed P N j < N ∧ P (listed P N j) ∧ Nat.count P (listed P N j) = j := by
  unfold listed
  rw [if_pos hj]
  set q := Nat.count (fun i => Nat.count P (i + 1) ≤ j) N with hq
  have hqN : q < N := count_nonzero_lt P N j hj
  have hiff : ∀ r, r < N → (Nat.count P (r + 1) ≤ j ↔ r < q) := fun r hr =>
    lt_count_iff (Q := fun i => Nat.count P (i + 1) ≤ j)
      (fun a b hab _ h => le_trans (Nat.count_monotone P (by omega)) h) hr
  have h1 : ¬ Nat.count P (q + 1) ≤ j := fun h => absurd ((hiff q hqN).mp h) (lt_irrefl _)
  have h2 : Nat.count P q ≤ j := by
    rcases Nat.eq_zero_or_pos q with h0 | h0
    · rw [h0]; simp
    · have := (hiff (q - 1) (by omega)).mpr (by omega)
      rwa [Nat.sub_add_cancel h0] at this
  have h3 := Nat.count_succ P q
  by_cases hP : P q
  · rw [if_pos hP] at h3
    exact ⟨hqN, hP, by omega⟩
  · rw [if_neg hP] at h3
    omega

/-- Every entry of the padded list is below `N`. -/
theorem listed_lt (hN : 0 < N) (j : Nat) : listed P N j < N := by
  by_cases h : j < Nat.count P N
  · exact (listed_spec P N h).1
  · unfold listed; rwa [if_neg h]

/-- A nonzero entry of the list is not padding. -/
theorem lt_of_listed_ne_zero {j : Nat} (h : listed P N j ≠ 0) : j < Nat.count P N := by
  by_contra hn
  exact h (by unfold listed; rw [if_neg hn])

/-- Two numbers with `P` that have as many numbers with `P` below them are the same. -/
theorem eq_of_count_eq {a b : Nat} (ha : P a) (hb : P b) (h : Nat.count P a = Nat.count P b) : a = b := by
  rcases lt_trichotomy a b with hab | hab | hab
  · have h1 := Nat.count_monotone P (show a + 1 ≤ b from hab)
    rw [Nat.count_succ, if_pos ha] at h1
    omega
  · exact hab
  · have h1 := Nat.count_monotone P (show b + 1 ≤ a from hab)
    rw [Nat.count_succ, if_pos hb] at h1
    omega

/-- Every number with `P` is listed, at the place that its count gives. -/
theorem listed_count {q : Nat} (hq : q < N) (hP : P q) : Nat.count P q < Nat.count P N ∧ listed P N (Nat.count P q) = q := by
  have h1 := Nat.count_monotone P (show q + 1 ≤ N from hq)
  rw [Nat.count_succ, if_pos hP] at h1
  have hlt : Nat.count P q < Nat.count P N := by omega
  obtain ⟨_, hP', hc⟩ := listed_spec P N hlt
  exact ⟨hlt, eq_of_count_eq P hP' hP hc⟩

/-- The list is increasing where it is not padding. -/
theorem listed_mono {i j : Nat} (hij : i < j) (hj : listed P N j ≠ 0) : listed P N i < listed P N j := by
  have hj' := lt_of_listed_ne_zero P N hj
  obtain ⟨_, _, hcj⟩ := listed_spec P N hj'
  obtain ⟨_, _, hci⟩ := listed_spec P N (lt_trans hij hj')
  by_contra hn
  have := Nat.count_monotone P (not_lt.mp hn)
  omega

end Listed

section Front
variable {E : Type} [LinearOrder E] (P : Nat → Prop) [DecidablePred P] (N CAP : Nat) (v : Nat → E) (low : E)

/-- The key of a position: its value where it has `P` and is not position 0, else `low`. -/
def fullKey (i : Nat) : E := if P i ∧ i ≠ 0 then v i else low

/-- The key of a place of the padded list: the value of the listed position, or `low` where the list says 0. -/
def listKey (j : Nat) : E := if listed P N j = 0 then low else v (listed P N j)

/-- The positions sorted by key, from high to low. -/
def fullSort (k : Fin N) : Fin N := sortedFrom (fun a b : Fin N => decide (fullKey P v low b < fullKey P v low a)) k

/-- The places of the list sorted by key, from high to low. -/
def listSort (k : Fin CAP) : Fin CAP :=
  sortedFrom (fun a b : Fin CAP => decide (listKey P N v low b < listKey P N v low a)) k

/-- THE TWO SORTS AGREE.  If every value with `P` is above `low` and the list has room for all of them, then at each
    place the list's sort either shows a listed position, and the full sort shows the same one, or shows padding, and
    the full sort shows a position whose key is `low`. -/
theorem sorts_agree (hlow : ∀ i, i < N → P i → low < v i) (hcap : Nat.count P N ≤ CAP) (hCN : CAP ≤ N) (k : Fin CAP) :
    (listed P N (listSort P N CAP v low k) ≠ 0 →
      (fullSort P N v low (k.castLE hCN)).val = listed P N (listSort P N CAP v low k)) ∧
    (listed P N (listSort P N CAP v low k) = 0 →
      ¬ (P (fullSort P N v low (k.castLE hCN)).val ∧ (fullSort P N v low (k.castLE hCN)).val ≠ 0)) := by
  rcases Nat.eq_zero_or_pos N with hN0 | hN
  · exact absurd k.isLt (by omega)
  -- the sorted list of places, as a sort with no ties
  have eσ : listSort P N CAP v low = sortedFrom (highFirst fun j : Fin CAP => listKey P N v low j) := by
    unfold listSort; rw [sortedFrom_gt (fun j : Fin CAP => listKey P N v low j)]
  have eτ : fullSort P N v low = sortedFrom (highFirst fun i : Fin N => fullKey P v low i) := by
    unfold fullSort; rw [sortedFrom_gt (fun i : Fin N => fullKey P v low i)]
  set σ := listSort P N CAP v low with hσ
  have hσinj : Function.Injective σ := by rw [eσ]; exact sortedFrom_injective _
  have hσsur : Function.Surjective σ := by rw [eσ]; exact sortedFrom_surjective _
  have hσord : ∀ i j : Fin CAP, i < j → listKey P N v low (σ j) ≤ listKey P N v low (σ i) ∧
      (listKey P N v low (σ j) = listKey P N v low (σ i) → σ i ≤ σ j) := fun i j hij => by
    have := sorted_order (fun j : Fin CAP => listKey P N v low j) i j hij
    rw [← eσ, highFirst_false] at this
    exact this
  have hkey : ∀ j, listed P N j ≠ 0 → listKey P N v low j = v (listed P N j) ∧ low < listKey P N v low j := fun j hj => by
    obtain ⟨h1, h2, _⟩ := listed_spec P N (lt_of_listed_ne_zero P N hj)
    unfold listKey
    rw [if_neg hj]
    exact ⟨rfl, hlow _ h1 h2⟩
  have hkey0 : ∀ j, listed P N j = 0 → listKey P N v low j = low := fun j hj => by unfold listKey; rw [if_pos hj]
  -- the listed positions come first in the list's sort: `M` of them
  let Q : Nat → Prop := fun i => ∃ h : i < CAP, listed P N (σ ⟨i, h⟩) ≠ 0
  haveI : DecidablePred Q := Classical.decPred Q
  set M := Nat.count Q CAP with hM
  have hMC : M ≤ CAP := Nat.count_le _
  have hQ : ∀ r, r < CAP → (Q r ↔ r < M) := fun r hr => lt_count_iff (Q := Q) (fun a b hab hb hq => by
    obtain ⟨h, hq⟩ := hq
    refine ⟨by omega, fun h0 => ?_⟩
    rcases Nat.lt_or_ge a b with hlt | hge
    · have h1 := (hσord ⟨a, by omega⟩ ⟨b, h⟩ hlt).1
      rw [hkey0 _ h0] at h1
      exact absurd (hkey _ hq).2 (not_lt.mpr h1)
    · obtain rfl : a = b := by omega
      exact hq h0) hr
  have hfull : ∀ j, listed P N j ≠ 0 → fullKey P v low (listed P N j) = listKey P N v low j := fun j hj => by
    obtain ⟨_, h2, _⟩ := listed_spec P N (lt_of_listed_ne_zero P N hj)
    unfold fullKey
    rw [if_pos ⟨h2, hj⟩, (hkey j hj).1]
  -- the selection: the listed positions in the order of the list's sort
  let g : Fin M → Fin N := fun i => ⟨listed P N (σ (i.castLE hMC)), listed_lt P N hN _⟩
  have hg0 : ∀ i : Fin M, listed P N (σ (i.castLE hMC)) ≠ 0 := fun i => ((hQ i.val (by omega)).mpr i.isLt).2
  have hmono : ∀ i j, listed P N i ≠ 0 → listed P N i = listed P N j → i = j := fun i j hi he => by
    rcases lt_trichotomy i j with h | h | h
    · have := listed_mono P N h (he ▸ hi); omega
    · exact h
    · have := listed_mono P N h hi; omega
  have hinj : Function.Injective g := fun i j hij => by
    have h1 : listed P N (σ (i.castLE hMC)) = listed P N (σ (j.castLE hMC)) := congrArg Fin.val hij
    have h2 := hσinj (Fin.ext (hmono _ _ (hg0 i) h1))
    exact Fin.ext (by simpa using congrArg Fin.val h2)
  have hord : ∀ i j : Fin M, i < j → highFirst (fun i : Fin N => fullKey P v low i) (g j) (g i) = false := fun i j hij => by
    rw [highFirst_false]
    have hj := hfull _ (hg0 j)
    have hi := hfull _ (hg0 i)
    obtain ⟨h1, h2⟩ := hσord (i.castLE hMC) (j.castLE hMC) hij
    refine ⟨by show fullKey P v low (listed P N _) ≤ fullKey P v low (listed P N _); rw [hj, hi]; exact h1, fun e => ?_⟩
    have e' : fullKey P v low (listed P N (σ (j.castLE hMC))) = fullKey P v low (listed P N (σ (i.castLE hMC))) := e
    rw [hj, hi] at e'
    have h3 := h2 e'
    show listed P N (σ (i.castLE hMC)) ≤ listed P N (σ (j.castLE hMC))
    rcases lt_or_eq_of_le h3 with h4 | h4
    · exact (listed_mono P N h4 (hg0 j)).le
    · rw [h4]
  have hcover : ∀ q : Fin N, P q → q.val ≠ 0 → ∃ j, g j = q := fun q hP hq => by
    obtain ⟨h1, h2⟩ := listed_count P N q.isLt hP
    obtain ⟨i, hi⟩ := hσsur ⟨Nat.count P q, by omega⟩
    have h3 : listed P N (σ i) = q := by rw [hi]; exact h2
    have h4 : i.val < M := (hQ i.val i.isLt).mp ⟨i.isLt, by rw [h3]; exact hq⟩
    exact ⟨⟨i.val, h4⟩, Fin.ext h3⟩
  have hlowkey : ∀ q : Fin N, ¬ (P q ∧ q.val ≠ 0) → fullKey P v low q = low := fun q hq => by
    unfold fullKey; rw [if_neg hq]
  have hdom : ∀ (i : Fin M) (p : Fin N), (∀ j, g j ≠ p) → highFirst (fun i : Fin N => fullKey P v low i) p (g i) = false := fun i p hp => by
    rw [highFirst_false]
    have h1 : fullKey P v low p = low := hlowkey p fun h => by
      obtain ⟨j, hj⟩ := hcover p h.1 h.2
      exact hp j hj
    have h2 : low < fullKey P v low (g i) := by
      show low < fullKey P v low (listed P N (σ (i.castLE hMC)))
      rw [hfull _ (hg0 i)]; exact (hkey _ (hg0 i)).2
    exact ⟨by show fullKey P v low p ≤ _; rw [h1]; exact h2.le, fun e => absurd e (by show fullKey P v low p ≠ _; rw [h1]; exact h2.ne)⟩
  have hpre := (highFirst_total fun i : Fin N => fullKey P v low i).sortedFrom_eq_of_prefix (hMC.trans hCN) g hinj hord hdom
  rw [← eτ] at hpre
  refine ⟨fun h => ?_, fun h hP => ?_⟩
  · have hk : k.val < M := (hQ k.val k.isLt).mp ⟨k.isLt, h⟩
    exact congrArg Fin.val (hpre ⟨k.val, hk⟩)
  · obtain ⟨j, hj⟩ := hcover _ hP.1 hP.2
    rw [← hpre j] at hj
    have hτ : Function.Injective (fullSort P N v low) := by rw [eτ]; exact sortedFrom_injective _
    have h1 : j.val = k.val := congrArg Fin.val (hτ hj)
    have h2 := hg0 j
    rw [show (j.castLE hMC) = k from Fin.ext h1] at h2
    exact h2 h

end Front

end Cert.Peaks
-- ==== Proof.Tail.lean ====
module

public import proofs.«01_k».proof.Proof.Keymap
public import proofs.«01_k».proof.Proof.Words
public import proofs.«01_k».proof.Proof.Sort

/-!
# What the kernel's program does with the array of keys

It takes the 4096 greatest keys of each image, with their pixel numbers, and keeps those above the threshold: the
column and the row of the pixel and its value, or zeros and −1.
-/

@[expose] public section

namespace Cert.Peaks
open Idealize.ShloMosaic Idealize.ShloMosaic.WordCmp
open Cert.KernelIdeal Cert.KernelIdeal.Gen

set_option maxRecDepth 16384

/-- The key of pixel number `n`. -/
noncomputable abbrev keyN (f : Image) (n : Nat) : EReal := fullKey (Peak f) (val f) low n

/-- The key of a pixel at its row and column is the key at its number. -/
theorem keyAt_number (f : Image) (n : Nat) (hn : n < 262144) :
    keyAt f (⟨n / 512, by omega⟩ : Fin 512) (⟨n % 512, by omega⟩ : Fin 512) = keyN f n := by
  have hr : (⟨n / 512, by omega⟩ : Fin 512) = row n := Fin.ext (by show n / 512 = n / 512 % 512; omega)
  have hc : (⟨n % 512, by omega⟩ : Fin 512) = col n := rfl
  rw [hr, hc]
  have hiff : ((IsMax f (row n) (col n) ∧ thr < f (row n) (col n)) ∧ ¬ ((row n).val = 0 ∧ (col n).val = 0)) ↔ Peak f n ∧ n ≠ 0 :=
    and_congr Iff.rfl (not_congr (by show n / 512 % 512 = 0 ∧ n % 512 = 0 ↔ n = 0; omega))
  by_cases h : Peak f n ∧ n ≠ 0
  · exact (if_pos (hiff.mpr h)).trans (if_pos h).symm
  · exact (if_neg fun h' => h (hiff.mp h')).trans (if_neg h).symm

/-- The number of the pixel that comes at place `k` when an image's pixels are sorted by key. -/
noncomputable def pick (f : Image) (k : Fin 4096) : Fin 262144 :=
  fullSort (Peak f) 262144 (val f) low (k.castLE (by decide))

/-- The flattened array of keys. -/
noncomputable abbrev flatKeys (K : FVec Ideal S16x512x512 .f32) : FVec Ideal S16x262144 .f32 :=
  fun i => K (ix3 (i 0) (⟨(i 1).val / 512, by have := (i 1).isLt; simp at this; omega⟩ : Fin 512) (⟨(i 1).val % 512, by omega⟩ : Fin 512))

/-- The greatest keys and their numbers. -/
noncomputable abbrev best (X : FVec Ideal S16x1x512x512 .f32) : FVec Ideal S16x4096 .f32 × IVec S16x4096 32 :=
  Host.topK S16x4096 1 (FloatOps.cmpfTotal (F := Ideal) (φ := .f32) .gt) (flatKeys (keymap X)) sliceFits_S16x262144_S16x4096

theorem flat_apply (X : FVec Ideal S16x1x512x512 .f32) (b : Fin 16) (n : Fin 262144) :
    flatKeys (keymap X) (ix2 b n) = keyN (image X b) n :=
  keyAt_number (image X b) n.val n.isLt

/-- The order of the sort: a greater key first. -/
theorem gt_bit (x y : EReal) : (FloatOps.cmpfTotal (F := Ideal) (φ := .f32) .gt x y == 1#1) = decide (y < x) := by
  rw [Ideal.cmpfTotal_def]
  show (BitVec.ofBool (decide (y < x)) == 1#1) = decide (y < x)
  cases decide (y < x) <;> rfl

/-- The greatest keys are those that the sort picks, with their pixel numbers. -/
theorem best_pick (X : FVec Ideal S16x1x512x512 .f32) (b : Fin 16) (k : Fin 4096) :
    (best X).1 (ix2 b k) = keyN (image X b) (pick (image X b) k) ∧
      (best X).2 (ix2 b k) = BitVec.ofNat 32 (pick (image X b) k).val := by
  have hp : pick (image X b) k = sortedFrom (fun k₁ k₂ : Fin 262144 =>
      FloatOps.cmpfTotal (F := Ideal) (φ := .f32) .gt (flatKeys (keymap X) (ix2 b k₁))
        (flatKeys (keymap X) (ix2 b k₂)) == 1#1) (k.castLE (by decide)) := by
    simp only [flat_apply, gt_bit]
    rfl
  unfold best Host.topK
  have h := sort2_ix2 (fun l r : EReal × BitVec 32 => FloatOps.cmpfTotal (F := Ideal) (φ := .f32) .gt l.1 r.1)
    (flatKeys (keymap X)) (fun i : S16x262144.Idx => if hd : 1 < S16x262144.rank then iotaInDim S16x262144 32 ⟨1, hd⟩ i else 0#32) b
    (k.castLE (by decide))
  rw [← hp] at h
  pointwise
  exact ⟨h.1.trans (flat_apply X b _), h.2⟩

/-- The column that the kernel's program returns at place `k` of image `b`. -/
noncomputable def outCol (f : Image) (k : Fin 4096) : Nat := by
  classical exact if thr < keyN f (pick f k) then (pick f k).val % 512 else 0

/-- The row that it returns. -/
noncomputable def outRow (f : Image) (k : Fin 4096) : Nat := by
  classical exact if thr < keyN f (pick f k) then (pick f k).val / 512 else 0

/-- The score that it returns. -/
noncomputable def outScore (f : Image) (k : Fin 4096) : EReal := by
  classical exact if thr < keyN f (pick f k) then keyN f (pick f k) else low

/-- The host operations after the blocks. -/
noncomputable abbrev tailOps : List (HloOp τ sig (Elt Ideal)) :=
  ([hostOps1, hostOps1_1, hostOps1_2, hostOps1_3, hostOps1_4, hostOps1_5, hostOps1_6, hostOps1_7, hostOps1_8, hostOps1_9,
    hostOps1_10] : List (List (HloOp τ sig (Elt Ideal)))).flatten

variable (W : Valuation τ sig (Elt Ideal)) (X : FVec Ideal S16x1x512x512 .f32) (hW : W (Proc.devRef .tc main_v1) = keymap X)

include hW in
/-- The scores. -/
theorem tail_score (b : Fin 16) (k : Fin 4096) :
    (StableHlo.after tailOps W (Proc.devRef .tc main_v9) : FVec Ideal S16x4096 .f32) (ix2 b k)
      = outScore (image X b) k := by
  unfold tailOps
  simp only [List.flatten_cons, List.flatten_nil, List.append_nil]
  unfold hostOps1 hostOps1_1 hostOps1_2 hostOps1_3 hostOps1_4 hostOps1_5 hostOps1_6 hostOps1_7 hostOps1_8 hostOps1_9 hostOps1_10
  simp only [List.cons_append, List.nil_append]
  after_reads_at
  rw [hW]
  generalize hT : @Host.topK _ _ S16x4096 1 _ _ _ = T
  obtain rfl : best X = T := hT
  rw [(best_pick X b k).1]
  unfold outScore
  classical
  exact if_congr Iff.rfl rfl rfl

include hW in
/-- The columns. -/
theorem tail_col (b : Fin 16) (k : Fin 4096) :
    (StableHlo.after tailOps W (Proc.devRef .tc main_v12) : IVec S16x4096x2 32) (ix3 b k 0)
      = BitVec.ofNat 32 (outCol (image X b) k) := by
  unfold tailOps
  simp only [List.flatten_cons, List.flatten_nil, List.append_nil]
  unfold hostOps1 hostOps1_1 hostOps1_2 hostOps1_3 hostOps1_4 hostOps1_5 hostOps1_6 hostOps1_7 hostOps1_8 hostOps1_9 hostOps1_10
  simp only [List.cons_append, List.nil_append]
  after_reads_at
  rw [hW]
  generalize hT : @Host.topK _ _ S16x4096 1 _ _ _ = T
  obtain rfl : best X = T := hT
  rw [(best_pick X b k).1, (best_pick X b k).2]
  unfold outCol
  classical
  rw [apply_ite (BitVec.ofNat 32)]
  refine if_congr Iff.rfl ?_ rfl
  exact remWord_ofNat (by omega) (by decide) (by decide)

include hW in
/-- The rows. -/
theorem tail_row (b : Fin 16) (k : Fin 4096) :
    (StableHlo.after tailOps W (Proc.devRef .tc main_v12) : IVec S16x4096x2 32) (ix3 b k 1)
      = BitVec.ofNat 32 (outRow (image X b) k) := by
  unfold tailOps
  simp only [List.flatten_cons, List.flatten_nil, List.append_nil]
  unfold hostOps1 hostOps1_1 hostOps1_2 hostOps1_3 hostOps1_4 hostOps1_5 hostOps1_6 hostOps1_7 hostOps1_8 hostOps1_9 hostOps1_10
  simp only [List.cons_append, List.nil_append]
  after_reads_at
  rw [hW]
  generalize hT : @Host.topK _ _ S16x4096 1 _ _ _ = T
  obtain rfl : best X = T := hT
  rw [(best_pick X b k).1, (best_pick X b k).2]
  unfold outRow
  classical
  rw [apply_ite (BitVec.ofNat 32)]
  refine if_congr Iff.rfl ?_ rfl
  exact divWord_ofNat (by omega) (by decide) (by decide)

end Cert.Peaks
-- ==== Proof.Run.lean ====
module

public import proofs.«01_k».proof.Proof.Tail

/-!
# What the kernel's program returns

The run of the whole program, read at its two results: the coordinates and the scores of every image's best peaks.
-/

@[expose] public section

namespace Cert.Peaks
open Idealize.ShloMosaic Idealize.ShloMosaic.TcCoe Idealize.SL.Sem
open Cert.KernelIdeal Cert.KernelIdeal.Gen

/-- The coordinates returned for the images of `X`: at image `b`, place `k`, the column and then the row. -/
noncomputable def outCoords (X : FVec Ideal S16x1x512x512 .f32) : IVec S16x4096x2 32 :=
  fun i => BitVec.ofNat 32 (if (i 2).val = 0 then outCol (image X (i 0)) (i 1) else outRow (image X (i 0)) (i 1))

/-- The scores returned for the images of `X`. -/
noncomputable def outScores (X : FVec Ideal S16x1x512x512 .f32) : FVec Ideal S16x4096 .f32 :=
  fun i => outScore (image X (i 0)) (i 1)

/-- Two arrays of coordinates agree if they agree on columns and on rows. -/
theorem coords_ext {u v : IVec S16x4096x2 32} (h0 : ∀ (b : Fin 16) (k : Fin 4096), u (ix3 b k 0) = v (ix3 b k 0))
    (h1 : ∀ (b : Fin 16) (k : Fin 4096), u (ix3 b k 1) = v (ix3 b k 1)) : u = v := by
  funext i
  have hi : i = ix3 (i 0) (i 1) (i 2) := by funext d; fin_cases d <;> rfl
  have h2 : ∀ d : Fin 2, u (ix3 (i 0) (i 1) d) = v (ix3 (i 0) (i 1) d) := fun d => by
    fin_cases d
    · exact h0 _ _
    · exact h1 _ _
  rw [hi]
  exact h2 _

/-- Two arrays of scores agree if they agree at every image and place. -/
theorem scores_ext {u v : FVec Ideal S16x4096 .f32} (h : ∀ (b : Fin 16) (k : Fin 4096), u (ix2 b k) = v (ix2 b k)) : u = v := by
  funext i
  have hi : i = ix2 (i 0) (i 1) := by funext d; fin_cases d <;> rfl
  rw [hi]
  exact h _ _

/-- The buffers as the blocks leave them: the array of keys is the keymap of the argument. -/
theorem keys_at_tail (m : (ℓ : Loc nD τ sig) → Buf (Elt Ideal) ℓ) (c : Dev nD) :
    Pipeline.withArrays (cfgs 0).spec c (V0 m c) (fun w => (dats m 0 c).arrAt w (cfgs 0).N) (Proc.devRef .tc main_v1)
      = keymap (argK m c) :=
  (Pipeline.withArrays_arr (cfgs 0).spec launch0.win.arr_inj c (V0 m c) (fun w => (dats m 0 c).arrAt w (cfgs 0).N) 1).trans
    (keymap_array m c)

/-- The kernel's program runs from any memory, returns the coordinates and scores of its argument, and leaves the
    argument as it was. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = outCoords (argK m c)
      ∧ r.2.mem ((c.tc : Thread nD τ).loc main_v9) = outScores (argK m c)
      ∧ r.2.mem ((c.tc : Thread nD τ).loc main_arg0) = m ((c.tc : Thread nD τ).loc main_arg0)) := by
  refine (θ_run defs _ _).mono (fun r h c => ?_) (θ_run_and (run_main m ρ) (unchanged m ρ))
  refine ⟨((h.1 c).2 main_v12 (Pipeline.mem_restRefs_of main_v12 (by decide) (by decide))).trans ?_,
    ((h.1 c).2 main_v9 (Pipeline.mem_restRefs_of main_v9 (by decide) (by decide))).trans ?_, h.2 c⟩
  · exact coords_ext (fun b k => tail_col _ _ (keys_at_tail m c) b k) (fun b k => tail_row _ _ (keys_at_tail m c) b k)
  · exact scores_ext fun b k => tail_score _ _ (keys_at_tail m c) b k

end Cert.Peaks
-- ==== Proof.Mask.lean ====
module

public import proofs.«01_k».proof.Proof.Spec
public import proofs.«01_k».proof.Proof.Gen.ReferenceIdeal.Run
public import Idealize.ShloMosaic.Lib.WordCmp
public import Idealize.ShloMosaic.Lib.Tactic.CleanTypes

/-!
# The reference's mask of peaks

The reference takes, around every pixel, the greatest value of a window of 5 by 5 padded with minus infinity; its
mask is set where the pixel equals that value and is above the threshold.
-/

@[expose] public section

namespace Cert.Peaks
open Idealize.ShloMosaic Idealize.ShloMosaic.WordCmp
open Cert.ReferenceIdeal Cert.ReferenceIdeal.Gen Cert.ReferenceIdeal.Value

set_option maxRecDepth 16384

/-- A left fold of maxima is at most `z` if and only if its start and every value are. -/
theorem foldl_max_le {ι : Type} (l : List ι) (g : ι → EReal) (v z : EReal) :
    l.foldl (fun r a => max r (g a)) v ≤ z ↔ v ≤ z ∧ ∀ a ∈ l, g a ≤ z := by
  induction l generalizing v with
  | nil => simp
  | cons a l ih => rw [List.foldl_cons, ih, max_le_iff]; simp [and_assoc]

/-- What a window reads at its position `w`: a value of the image, or minus infinity off it. -/
noncomputable def windowRead (X : FVec Ideal S16x1x512x512 .f32) (b : Fin 16) (y x : Fin 512) (w : (⟨4, ![1, 1, 5, 5]⟩ : Shape).Idx) : EReal :=
  if hin : ∀ d : Fin 4, (![0, 0, 2, 2] : Fin 4 → Nat) d ≤ (ix4 b (0 : Fin 1) y x d).val * (![1, 1, 1, 1] : Fin 4 → Nat) d + (w d).val
      ∧ (ix4 b (0 : Fin 1) y x d).val * (![1, 1, 1, 1] : Fin 4 → Nat) d + (w d).val - (![0, 0, 2, 2] : Fin 4 → Nat) d < S16x1x512x512.size d
    then X (fun d => ⟨(ix4 b (0 : Fin 1) y x d).val * (![1, 1, 1, 1] : Fin 4 → Nat) d + (w d).val - (![0, 0, 2, 2] : Fin 4 → Nat) d, (hin d).2⟩)
    else ⊥

/-- A window that reads every neighbour, and nothing else, is bounded by what bounds the neighbours. -/
theorem windowRead_le (X : FVec Ideal S16x1x512x512 .f32) (b : Fin 16) (y x : Fin 512) (z : EReal) :
    (∀ w, windowRead X b y x w ≤ z) ↔ ∀ a c : Fin 512, Near y a → Near x c → image X b a c ≤ z := by
  constructor
  · rintro hall a c ⟨ha, ha'⟩ ⟨hc, hc'⟩
    have hn := hall (ix4 (0 : Fin 1) (0 : Fin 1) (⟨a.val + 2 - y.val, by omega⟩ : Fin 5) (⟨c.val + 2 - x.val, by omega⟩ : Fin 5))
    unfold windowRead at hn
    rw [dif_pos (by
      intro d
      have := b.isLt; have := a.isLt; have := c.isLt
      fin_cases d
      · show 0 ≤ b.val * 1 + 0 ∧ b.val * 1 + 0 - 0 < 16; omega
      · show 0 ≤ 0 * 1 + 0 ∧ 0 * 1 + 0 - 0 < 1; omega
      · show 2 ≤ y.val * 1 + (a.val + 2 - y.val) ∧ y.val * 1 + (a.val + 2 - y.val) - 2 < 512; omega
      · show 2 ≤ x.val * 1 + (c.val + 2 - x.val) ∧ x.val * 1 + (c.val + 2 - x.val) - 2 < 512; omega)] at hn
    refine le_of_eq_of_le (congrArg X (funext fun d => Fin.ext ?_)) hn
    fin_cases d
    · show b.val = b.val * 1 + 0 - 0; omega
    · show 0 = 0 * 1 + 0 - 0; omega
    · show a.val = y.val * 1 + (a.val + 2 - y.val) - 2; omega
    · show c.val = x.val * 1 + (c.val + 2 - x.val) - 2; omega
  · intro hall w
    have hw0 : (w 0).val < 1 := (w 0).isLt
    have hw1 : (w 1).val < 1 := (w 1).isLt
    have hw2 : (w 2).val < 5 := (w 2).isLt
    have hw3 : (w 3).val < 5 := (w 3).isLt
    unfold windowRead
    split
    · next hin =>
      have h2 : 2 ≤ y.val * 1 + (w 2).val ∧ y.val * 1 + (w 2).val - 2 < 512 := hin 2
      have h3 : 2 ≤ x.val * 1 + (w 3).val ∧ x.val * 1 + (w 3).val - 2 < 512 := hin 3
      refine le_of_eq_of_le (congrArg X (funext fun d => Fin.ext ?_))
        (hall ⟨y.val * 1 + (w 2).val - 2, h2.2⟩ ⟨x.val * 1 + (w 3).val - 2, h3.2⟩
          ⟨by show y.val * 1 + (w 2).val - 2 ≤ _; omega, by show y.val ≤ y.val * 1 + (w 2).val - 2 + 2; omega⟩
          ⟨by show x.val * 1 + (w 3).val - 2 ≤ _; omega, by show x.val ≤ x.val * 1 + (w 3).val - 2 + 2; omega⟩)
      fin_cases d
      · show b.val * 1 + (w 0).val - 0 = b.val; omega
      · show 0 * 1 + (w 1).val - 0 = 0; omega
      · rfl
      · rfl
    · exact bot_le

/-- The window's maximum is the least upper bound of the neighbourhood. -/
theorem window_le (X : FVec Ideal S16x1x512x512 .f32) (v : FVec Ideal S_ .f32) (hv : ∀ i, v i = (⊥ : EReal))
    (h : S16x1x512x512.ReduceWindows ![1, 1, 5, 5] ![1, 1, 1, 1] ![0, 0, 2, 2] ![0, 0, 2, 2] S16x1x512x512)
    (hu : 0 < S_.numel) (b : Fin 16) (y x : Fin 512) (z : EReal) :
    (Host.reduceWindow (FloatOps.maximumf (F := Ideal) (φ := .f32)) ![1, 1, 5, 5] ![1, 1, 1, 1] ![0, 0, 2, 2] ![0, 0, 2, 2] X v h hu (ix4 b 0 y x) : EReal) ≤ z
      ↔ ∀ a c : Fin 512, Near y a → Near x c → image X b a c ≤ z := by
  have e : (Host.reduceWindow (FloatOps.maximumf (F := Ideal) (φ := .f32)) ![1, 1, 5, 5] ![1, 1, 1, 1] ![0, 0, 2, 2] ![0, 0, 2, 2] X v h hu
      (ix4 b 0 y x) : EReal) = (List.finRange (⟨4, ![1, 1, 5, 5]⟩ : Shape).numel).foldl
        (fun r n => max r (windowRead X b y x ((⟨4, ![1, 1, 5, 5]⟩ : Shape).rowMajor.symm n))) ⊥ := by
    unfold Host.reduceWindow
    simp only [hv]
    rfl
  rw [e, foldl_max_le, ← windowRead_le]
  constructor
  · exact fun hall w => by
      have := hall.2 ((⟨4, ![1, 1, 5, 5]⟩ : Shape).rowMajor w) (List.mem_finRange _)
      rwa [Equiv.symm_apply_apply] at this
  · exact fun hall => ⟨bot_le, fun n _ => hall _⟩

/-- A pixel equals its window's maximum if and only if it is the greatest of its neighbourhood. -/
theorem window_eq_iff (X : FVec Ideal S16x1x512x512 .f32) (v : FVec Ideal S_ .f32) (hv : ∀ i, v i = (⊥ : EReal))
    (h : S16x1x512x512.ReduceWindows ![1, 1, 5, 5] ![1, 1, 1, 1] ![0, 0, 2, 2] ![0, 0, 2, 2] S16x1x512x512)
    (hu : 0 < S_.numel) (b : Fin 16) (y x : Fin 512) :
    (X (ix4 b 0 y x) : EReal) = Host.reduceWindow (FloatOps.maximumf (F := Ideal) (φ := .f32)) ![1, 1, 5, 5] ![1, 1, 1, 1] ![0, 0, 2, 2]
        ![0, 0, 2, 2] X v h hu (ix4 b 0 y x) ↔ IsMax (image X b) y x := by
  have hle := window_le X v hv h hu b y x
  constructor
  · exact fun e => (hle _).mp e.ge
  · exact fun e => le_antisymm ((hle _).mp le_rfl y x ⟨by omega, by omega⟩ ⟨by omega, by omega⟩) ((hle _).mpr e)

/-- The number of a pixel gives back its row and column. -/
theorem row_col (i : Fin 262144) (h1 : i.val / 512 < 512) (h2 : i.val % 512 < 512) :
    row i.val = ⟨i.val / 512, h1⟩ ∧ col i.val = ⟨i.val % 512, h2⟩ :=
  ⟨Fin.ext (Nat.mod_eq_of_lt h1), rfl⟩

/-- The two comparisons together are the test for a peak. -/
theorem peak_bits (X : FVec Ideal S16x1x512x512 .f32) (v : FVec Ideal S_ .f32) (hv : ∀ i, v i = (⊥ : EReal))
    (h : S16x1x512x512.ReduceWindows ![1, 1, 5, 5] ![1, 1, 1, 1] ![0, 0, 2, 2] ![0, 0, 2, 2] S16x1x512x512)
    (hu : 0 < S_.numel) (b : Fin 16) (i : Fin 262144) (h1 : i.val / 512 < 512) (h2 : i.val % 512 < 512)
    (d1 : Decidable ((X (ix4 b 0 ⟨i.val / 512, h1⟩ ⟨i.val % 512, h2⟩) : EReal) = Host.reduceWindow (FloatOps.maximumf (F := Ideal) (φ := .f32))
      ![1, 1, 5, 5] ![1, 1, 1, 1] ![0, 0, 2, 2] ![0, 0, 2, 2] X v h hu (ix4 b 0 ⟨i.val / 512, h1⟩ ⟨i.val % 512, h2⟩)))
    (d2 : Decidable (thr < (X (ix4 b 0 ⟨i.val / 512, h1⟩ ⟨i.val % 512, h2⟩) : EReal))) :
    IntOp.andi (BitVec.ofBool (@decide _ d1)) (BitVec.ofBool (@decide _ d2)) = BitVec.ofBool (decide (Peak (image X b) i.val)) := by
  rw [andi_ofBool, ← Bool.decide_and]
  refine congrArg BitVec.ofBool (decide_eq_decide.mpr ?_)
  unfold Peak val
  rw [(row_col i h1 h2).1, (row_col i h1 h2).2]
  exact and_congr (window_eq_iff X v hv h hu b _ _) Iff.rfl

/-- The reference's argument. -/
noncomputable def argR (V0 : Valuation τ sig (Elt Ideal)) : FVec Ideal S16x1x512x512 .f32 := V0 (Proc.devRef .tc main_arg0)

/-- The reference's mask is set at the peaks. -/
theorem mask_apply (V0 : Valuation τ sig (Elt Ideal)) (b : Fin 16) (i : Fin 262144) :
    (res_main_v7 V0 : IVec S16x262144 1) (ix2 b i) = BitVec.ofBool (decide (Peak (image (argR V0) b) i.val)) := by
  unfold res_main_v7
  clean_types
  pointwise
  exact peak_bits (argR V0) (broadcastInDim S_ ![] bcast_S_S_ (constant S_ FTy.f32 4286578688#32)) (fun i => ofBits_bot) _ _ b i _ _ _ _

end Cert.Peaks
-- ==== Proof.Sums.lean ====
module

public import proofs.«01_k».proof.Proof.Sort
public import Idealize.ShloMosaic.Lib.Routing.Ops
public import Idealize.ShloMosaic.Lib.Routing.OpsPair

/-!
# Running sums and histograms of several rows

A running sum along the rows of an array, the number of times each value occurs in a row, and a sum along the rows,
each of words that hold naturals.
-/

@[expose] public section

namespace Cert.Peaks
open Idealize.ShloMosaic Idealize.ShloMosaic.Routing

/-- A running sum along each row: at column `j` of row `b` it holds the sum of the row's first `j + 1` entries. -/
theorem running_sum {R n m : Nat} (hn : m + 1 = n) (x : IVec ⟨2, ![R, n]⟩ 32) (b : Fin R) (f : Nat → Nat)
    (hx : ∀ i : Fin n, x (ix2 b i) = BitVec.ofNat 32 (f i.val)) (v : IVec ⟨0, ![]⟩ 32) (hv : ∀ i, v i = 0#32)
    (h : (⟨2, ![R, n]⟩ : Shape).ReduceWindows (![1, n] : Fin 2 → Nat) ![1, 1] ![0, m] ![0, 0] ⟨2, ![R, n]⟩)
    (hu : 0 < (⟨0, ![]⟩ : Shape).numel) (j : Fin n) :
    Host.reduceWindow IntOp.addi ![1, n] ![1, 1] ![0, m] ![0, 0] x v h hu (ix2 b j)
      = BitVec.ofNat 32 ((List.range (j.val + 1)).map f).sum := by
  subst hn
  have hj := j.isLt
  have hb := b.isLt
  unfold Host.reduceWindow
  refine (foldl_addi_ofNat _ _ (fun k => if m ≤ j.val + k.val then f (j.val + k.val - m) else 0) (fun k _ => ?_) _ 0 (hv _)).trans ?_
  · have hk : k.val < m + 1 := (k.cast (numel2 _)).isLt
    have hw0 : ((shape2 1 (m + 1)).rowMajor.symm k 0).val = 0 := by rw [symm2]; rfl
    have hw1 : ((shape2 1 (m + 1)).rowMajor.symm k 1).val = k.val := by rw [symm2]; rfl
    dsimp only
    split
    · next hin =>
      have h1 : m ≤ j.val * 1 + ((shape2 1 (m + 1)).rowMajor.symm k 1).val
        ∧ j.val * 1 + ((shape2 1 (m + 1)).rowMajor.symm k 1).val - m < m + 1 := hin 1
      rw [hw1] at h1
      rw [if_pos (by omega)]
      refine (congrArg x (funext fun d => Fin.ext ?_)).trans (hx ⟨j.val + k.val - m, by omega⟩)
      match d with
      | ⟨0, _⟩ =>
        show b.val * 1 + ((shape2 1 (m + 1)).rowMajor.symm k 0).val - 0 = b.val
        rw [hw0]; omega
      | ⟨1, _⟩ =>
        show j.val * 1 + ((shape2 1 (m + 1)).rowMajor.symm k 1).val - m = j.val + k.val - m
        rw [hw1]; omega
    · next hin =>
      rw [if_neg fun hle => hin fun d => by
        match d with
        | ⟨0, _⟩ =>
          show 0 ≤ b.val * 1 + ((shape2 1 (m + 1)).rowMajor.symm k 0).val ∧ b.val * 1 + ((shape2 1 (m + 1)).rowMajor.symm k 0).val - 0 < R
          rw [hw0]; omega
        | ⟨1, _⟩ =>
          show m ≤ j.val * 1 + ((shape2 1 (m + 1)).rowMajor.symm k 1).val
            ∧ j.val * 1 + ((shape2 1 (m + 1)).rowMajor.symm k 1).val - m < m + 1
          rw [hw1]; omega]
      exact hv _
  · rw [Nat.zero_add, map_finRange_val _ (fun k => if m ≤ j.val + k then f (j.val + k - m) else 0)]
    exact congrArg (BitVec.ofNat 32) ((congrArg (fun M => ((List.range M).map fun k => if m ≤ j.val + k then f (j.val + k - m) else 0).sum)
      (numel2 (m + 1))).trans (sum_window f m j.val (by omega)))

/-- Counting, among the positions of a table of `A` rows of `B`, those of one row: the count of that row's columns. -/
theorem count_block {A B b : Nat} (hb : b < A) (Q : Nat → Prop) [DecidablePred Q] :
    Nat.count (fun n => n / B = b ∧ Q (n % B)) (A * B) = Nat.count Q B := by
  obtain ⟨d, rfl⟩ : ∃ d, A = b + 1 + d := ⟨A - (b + 1), by omega⟩
  rcases Nat.eq_zero_or_pos B with rfl | hB
  · simp
  rw [Nat.add_mul, Nat.add_mul, Nat.one_mul, Nat.count_add, Nat.count_add]
  have h1 : Nat.count (fun n => n / B = b ∧ Q (n % B)) (b * B) = 0 := by
    refine (count_congr_of_lt (Q := fun _ => False) _ fun i hi => ⟨fun h => ?_, False.elim⟩).trans (by simp)
    have := (Nat.div_lt_iff_lt_mul hB).mpr hi
    omega
  have h3 : Nat.count (fun k => (b * B + B + k) / B = b ∧ Q ((b * B + B + k) % B)) (d * B) = 0 := by
    refine (count_congr_of_lt (Q := fun _ => False) _ fun i _ => ⟨fun h => ?_, False.elim⟩).trans (by simp)
    have : b + 1 ≤ (b * B + B + i) / B := (Nat.le_div_iff_mul_le hB).mpr (by rw [Nat.add_mul]; omega)
    omega
  have h2 : Nat.count (fun k => (b * B + k) / B = b ∧ Q ((b * B + k) % B)) B = Nat.count Q B := by
    refine count_congr_of_lt _ fun i hi => ?_
    have e1 : (b * B + i) / B = b := by rw [Nat.mul_comm, Nat.mul_add_div hB, Nat.div_eq_of_lt hi, Nat.add_zero]
    have e2 : (b * B + i) % B = i := by rw [Nat.mul_comm, Nat.mul_add_mod, Nat.mod_eq_of_lt hi]
    rw [e1, e2]
    exact and_iff_right rfl
  rw [h1, h2, h3]
  omega

/-- A fold that adds one at some steps holds, in the end, the number of those steps. -/
theorem foldl_ones {ι : Type} (l : List ι) (p : ι → Prop) [DecidablePred p] (v : BitVec 32) (z : Nat) (hv : v = BitVec.ofNat 32 z) :
    l.foldl (fun r k => if p k then IntOp.addi r 1#32 else r) v = BitVec.ofNat 32 (z + l.countP fun k => decide (p k)) := by
  induction l generalizing v z with
  | nil => simpa using hv
  | cons k l ih =>
    rw [List.foldl_cons, List.countP_cons]
    by_cases hk : p k
    · rw [if_pos hk, ih _ (z + 1) (by rw [hv]; exact (BitVec.ofNat_add z 1).symm)]
      simp only [hk, decide_true, if_true]
      congr 1; omega
    · rw [if_neg hk, ih _ z hv]
      simp only [hk, decide_false, Bool.false_eq_true, if_false, Nat.add_zero]

/-- THE HISTOGRAM: ones added at places (row, value) leave, at row `b` and value `c`, the number of columns of row `b`
    that hold `c`. A value past the last column is counted nowhere. -/
theorem histogram {R C n : Nat} (d : ScatterDims ⟨2, ![R, C]⟩ ⟨3, ![R, n, 2]⟩ ⟨2, ![R, n]⟩) (hiw : d.insertedWindowDims = [0, 1])
    (hsd : d.scatterDimsToOperandDims = [0, 1]) (hivd : d.indexVectorDim = 2) (idx : IVec ⟨3, ![R, n, 2]⟩ 32)
    (x0 : IVec ⟨2, ![R, C]⟩ 32) (upd : IVec ⟨2, ![R, n]⟩ 32) (h0 : ∀ i, x0 i = 0#32) (h1 : ∀ i, upd i = 1#32) (b : Fin R) (g : Nat → Nat)
    (hrow : ∀ (a : Fin R) (i : Fin n), (idx (ix3 a i 0)).toInt = a.val)
    (hval : ∀ i : Fin n, (idx (ix3 b i 1)).toInt = g i.val) (c : Fin C) :
    Host.scatter d IntOp.addi x0 idx upd (ix2 b c) = BitVec.ofNat 32 (Nat.count (fun i => g i = c.val) n) := by
  rw [scatter_at]
  simp only [h0, h1]
  refine (foldl_ones _ _ _ 0 rfl).trans ?_
  rw [Nat.zero_add, ← count_block b.isLt (fun i => g i = c.val) (B := n)]
  have hnum : (⟨2, ![R, n]⟩ : Shape).numel = R * n := by
    show ∏ a : Fin 2, (![R, n] : Fin 2 → Nat) a = R * n
    rw [Fin.prod_univ_two]; rfl
  refine congrArg (BitVec.ofNat 32) ?_
  rw [← hnum, ← countP_finRange]
  refine List.countP_congr fun k _ => ?_
  simp only [decide_eq_true_eq]
  have hk : k.val < R * n := hnum ▸ k.isLt
  have hn : 0 < n := by
    rcases Nat.eq_zero_or_pos n with rfl | h
    · simp at hk
    · exact h
  have ha : k.val / n < R := (Nat.div_lt_iff_lt_mul hn).mpr hk
  have hm : k.val % n < n := Nat.mod_lt _ hn
  have hs : (⟨2, ![R, n]⟩ : Shape).rowMajor.symm k = ix2 (⟨k.val / n, ha⟩ : Fin R) (⟨k.val % n, hm⟩ : Fin n) := symm22 k ha hm
  rw [hs]
  refine (scatter_lands2 d hiw hsd hivd idx ⟨k.val / n, ha⟩ ⟨k.val % n, hm⟩ b c).trans ?_
  have hr : (idx (ix3 (⟨k.val / n, ha⟩ : Fin R) (⟨k.val % n, hm⟩ : Fin n) 0)).toInt = (k.val / n : Nat) := hrow _ _
  constructor
  · rintro ⟨e0, e1⟩
    have e : k.val / n = b.val := by
      have := hr.symm.trans e0
      omega
    have eb : (⟨k.val / n, ha⟩ : Fin R) = b := Fin.ext e
    have hv' : (idx (ix3 (⟨k.val / n, ha⟩ : Fin R) (⟨k.val % n, hm⟩ : Fin n) 1)).toInt = g (k.val % n) := by rw [eb]; exact hval _
    have := hv'.symm.trans e1
    exact ⟨e, by omega⟩
  · rintro ⟨e, e1⟩
    have eb : (⟨k.val / n, ha⟩ : Fin R) = b := Fin.ext e
    have hv' : (idx (ix3 (⟨k.val / n, ha⟩ : Fin R) (⟨k.val % n, hm⟩ : Fin n) 1)).toInt = g (k.val % n) := by rw [eb]; exact hval _
    exact ⟨hr.trans (by rw [e]), hv'.trans (by rw [e1])⟩

/-- The sum along a row of a widened mask is the number of bits set in the row. -/
theorem row_count {R n : Nat} (hn : n < 2 ^ 32) (mask : IVec ⟨2, ![R, n]⟩ 1) (hw : 1 < 32)
    (h : (⟨2, ![R, n]⟩ : Shape).ReducesTo [1] ⟨1, ![R]⟩) {u : Shape} (hu : 0 < u.numel) (b : Fin R) (P : Nat → Prop) [DecidablePred P]
    (hP : ∀ i : Fin n, mask (ix2 b i) = BitVec.ofBool (decide (P i.val))) :
    Host.reduce IntOp.addi (extui 32 mask hw) (constantI u 32 0#32) h hu (ix1 b) = BitVec.ofNat 32 (Nat.count P n) := by
  apply BitVec.eq_of_toNat_eq
  have hc : Nat.count P n ≤ n := Nat.count_le _
  rw [StableHlo.Predicate.toNat_reduce_count_cols hn, BitVec.toNat_ofNat, Nat.mod_eq_of_lt (by omega), ← card_filter_fin]
  refine congrArg Finset.card (Finset.filter_congr fun q _ => ?_)
  have e : mask (StableHlo.Predicate.ij b q) = BitVec.ofBool (decide (P q.val)) :=
    (congrArg mask (ij_eq_ix2 b q)).trans (hP q)
  show mask (StableHlo.Predicate.ij b q) = 1#1 ↔ _
  rw [e]
  by_cases hq : P q.val <;> simp [hq]

end Cert.Peaks
-- ==== Proof.Counts.lean ====
module

public import proofs.«01_k».proof.Proof.Mask
public import proofs.«01_k».proof.Proof.Sums
public import proofs.«01_k».proof.Proof.Words

/-!
# The reference's list of peaks

The reference numbers the peaks of an image by a running count, turns the count into the list of the peaks' numbers by
a histogram and a second running count, and splits each number into a column and a row. Past the last peak the list
holds zeros.
-/

@[expose] public section

namespace Cert.Peaks
open Idealize.ShloMosaic Idealize.ShloMosaic.WordCmp Idealize.ShloMosaic.Routing
open Cert.ReferenceIdeal Cert.ReferenceIdeal.Gen Cert.ReferenceIdeal.Value

set_option maxRecDepth 16384

variable (V0 : Valuation τ sig (Elt Ideal)) (b : Fin 16)

/-- The peaks of image `b`. -/
abbrev PeakR : Nat → Prop := Peak (image (argR V0) b)

/-- The running count of the peaks. -/
theorem count_apply (i : Fin 262144) :
    (res_main_v8 V0 : IVec S16x262144 32) (ix2 b i) = BitVec.ofNat 32 (Nat.count (PeakR V0 b) (i.val + 1)) := by
  unfold res_main_v8
  clean_types
  rw [← sum_map_ite]
  refine running_sum (m := 262143) rfl _ b (fun i => if PeakR V0 b i then 1 else 0) (fun i => ?_) _ (fun _ => rfl) _ _ i
  show BitVec.setWidth 32 (res_main_v7 V0 (ix2 b i)) = _
  rw [mask_apply]
  by_cases h : PeakR V0 b i.val
  · simp [h]
  · simp [h]

/-- The running count is a small number. -/
theorem count_small (i : Nat) (hi : i ≤ 262144) (Q : Nat → Prop) [DecidablePred Q] : Nat.count Q i < 2 ^ 31 :=
  lt_of_le_of_lt (Nat.count_le _) (by omega)

/-- A word of a small number, and the wrap of a negative index, which leaves it as it is. -/
theorem wrap_ofNat {a : Nat} (ha : a < 2 ^ 31) (w : BitVec 32) :
    Scalar.select (IntOp.cmpi .slt (BitVec.ofNat 32 a) 0#32) w (BitVec.ofNat 32 a) = BitVec.ofNat 32 a :=
  wrap_of_lt _ _ (by rw [BitVec.toNat_ofNat, Nat.mod_eq_of_lt (by omega)]; exact ha)

/-- The number of pixels whose running count is at most `j`: the number of the `j`-th peak, where there is one. -/
theorem place_apply (j : Fin 16384) :
    (res_main_v32 V0 : IVec S16x16384 32) (ix2 b j)
      = BitVec.ofNat 32 (Nat.count (fun i => Nat.count (PeakR V0 b) (i + 1) ≤ j.val) 262144) := by
  unfold res_main_v32
  clean_types
  rw [← sum_count_eq]
  refine running_sum (m := 16383) rfl _ b (fun y => Nat.count (fun i => Nat.count (PeakR V0 b) (i + 1) = y) 262144) (fun c => ?_) _
    (fun _ => rfl) _ _ j
  refine histogram _ rfl rfl rfl _ _ _ (fun _ => rfl) (fun _ => rfl) b (fun i => Nat.count (PeakR V0 b) (i + 1)) (fun a i => ?_) (fun i => ?_) c
  · pointwise
    unfold res_main_v15
    clean_types
    pointwise
    have e : IntOp.addi (0#32) (IntOp.muli (1#32) (BitVec.ofNat 32 a.val)) = BitVec.ofNat 32 a.val := by
      show 0#32 + 1#32 * BitVec.ofNat 32 a.val = _
      simp
    rw [e, wrap_ofNat (by omega), toInt_ofNat_of_lt (by omega)]
  · pointwise
    have hc := count_small (i.val + 1) (by omega) (PeakR V0 b)
    rw [count_apply, wrap_ofNat hc, toInt_ofNat_of_lt hc]

/-- The mask of padding. -/
theorem pad_apply (j : Fin 16384) :
    (res_main_v44 V0 : IVec S16x16384 1) (ix2 b j) = BitVec.ofBool (decide (Nat.count (PeakR V0 b) 262144 ≤ j.val)) := by
  unfold res_main_v44
  clean_types
  generalize hT : @Host.reduce _ _ _ _ _ _ _ _ _ _ = T
  have hc : T (ix1 b) = BitVec.ofNat 32 (Nat.count (PeakR V0 b) 262144) := by
    rw [← hT]
    exact row_count (by decide) _ _ _ _ b _ (mask_apply V0 b)
  clear hT
  have e1 : broadcastInDim S16x16384 ![0, 1] bcast_S1x16384_S16x16384_0_1 (broadcastInDim S1x16384 ![1] bcast_S16384_S1x16384_1 (iotaInDim S16384 32 0)) (ix2 b j) = BitVec.ofNat 32 j.val := by
    pointwise
  have e2 : broadcastInDim S16x16384 ![0, 1] bcast_S16x1_S16x16384_0_1 (broadcastInDim S16x1 ![0] bcast_S16_S16x1_0 T) (ix2 b j) = T (ix1 b) := by
    pointwise
  refine (congrArg₂ (IntOp.cmpi .sge) e1 e2).trans ?_
  rw [hc, cmpi_sge_ofNat (by omega) (count_small _ le_rfl _)]

/-- The place of a peak, read through the floor division by 512 and the remainder by 512: the row. -/
theorem rowWord_apply (j : Fin 16384) (q : Nat) (hq : q < 2 ^ 31)
    (h : (res_main_v32 V0 : IVec S16x16384 32) (ix2 b j) = BitVec.ofNat 32 q) :
    Scalar.select
      (IntOp.andi
        (IntOp.cmpi .ne (IntOp.cmpi .slt ((res_main_call3_v4 V0 : IVec S16x16384 32) (ix2 b j)) 0#32)
          (IntOp.cmpi .slt ((res_main_call3_v2 V0 : IVec S_ 32) ix0) 0#32))
        (IntOp.cmpi .ne ((res_main_call3_v4 V0 : IVec S16x16384 32) (ix2 b j)) 0#32))
      (IntOp.addi ((res_main_call3_v4 V0 : IVec S16x16384 32) (ix2 b j)) ((res_main_call3_v2 V0 : IVec S_ 32) ix0))
      ((res_main_call3_v4 V0 : IVec S16x16384 32) (ix2 b j)) = BitVec.ofNat 32 (q / 512 % 512) := by
  unfold res_main_call3_v4 res_main_call3_v2 res_main_call3_v0 res_main_call2_v2 res_main_call2_v0
  clean_types
  pointwise
  rw [h]
  refine (congrArg (fun x => remWord x (BitVec.ofNat 32 512)) (divWord_ofNat hq (by decide) (by decide))).trans ?_
  exact remWord_ofNat (lt_of_le_of_lt (Nat.div_le_self _ _) hq) (by decide) (by decide)

/-- The place of a peak, read through the floor division by 1 and the remainder by 512: the column. -/
theorem colWord_apply (j : Fin 16384) (q : Nat) (hq : q < 2 ^ 31)
    (h : (res_main_v32 V0 : IVec S16x16384 32) (ix2 b j) = BitVec.ofNat 32 q) :
    Scalar.select
      (IntOp.andi
        (IntOp.cmpi .ne (IntOp.cmpi .slt ((res_main_call5_v4 V0 : IVec S16x16384 32) (ix2 b j)) 0#32)
          (IntOp.cmpi .slt ((res_main_call5_v2 V0 : IVec S_ 32) ix0) 0#32))
        (IntOp.cmpi .ne ((res_main_call5_v4 V0 : IVec S16x16384 32) (ix2 b j)) 0#32))
      (IntOp.addi ((res_main_call5_v4 V0 : IVec S16x16384 32) (ix2 b j)) ((res_main_call5_v2 V0 : IVec S_ 32) ix0))
      ((res_main_call5_v4 V0 : IVec S16x16384 32) (ix2 b j)) = BitVec.ofNat 32 (q % 512) := by
  unfold res_main_call5_v4 res_main_call5_v2 res_main_call5_v0 res_main_call4_v2 res_main_call4_v0
  clean_types
  pointwise
  rw [h]
  refine (congrArg (fun x => remWord x (BitVec.ofNat 32 512)) (divWord_ofNat hq (b := 1) (by decide) (by decide))).trans ?_
  rw [Nat.div_one]
  exact remWord_ofNat hq (by decide) (by decide)

/-- The columns. -/
theorem colR_apply (j : Fin 16384) :
    (res_main_v51 V0 : IVec S16x16384x2 32) (ix3 b j 0) = BitVec.ofNat 32 (listed (PeakR V0 b) 262144 j.val % 512) := by
  unfold res_main_v51
  clean_types
  pointwise
  rw [pad_apply, WordCmp.select_decide]
  unfold listed
  by_cases h : j.val < Nat.count (PeakR V0 b) 262144
  · rw [if_neg (not_le.mpr h), if_pos h]
    exact colWord_apply V0 b j _ (count_small _ le_rfl _) (place_apply V0 b j)
  · rw [if_pos (not_lt.mp h), if_neg h]

/-- The rows. -/
theorem rowR_apply (j : Fin 16384) :
    (res_main_v51 V0 : IVec S16x16384x2 32) (ix3 b j 1) = BitVec.ofNat 32 (listed (PeakR V0 b) 262144 j.val / 512) := by
  unfold res_main_v51
  clean_types
  pointwise
  rw [pad_apply, WordCmp.select_decide]
  have hlt := listed_lt (PeakR V0 b) 262144 (by decide) j.val
  rw [← Nat.mod_eq_of_lt (show listed (PeakR V0 b) 262144 j.val / 512 < 512 by omega)]
  unfold listed
  by_cases h : j.val < Nat.count (PeakR V0 b) 262144
  · rw [if_neg (not_le.mpr h), if_pos h]
    exact rowWord_apply V0 b j _ (count_small _ le_rfl _) (place_apply V0 b j)
  · rw [if_pos (not_lt.mp h), if_neg h]

end Cert.Peaks
-- ==== Proof.Gathers.lean ====
module

public import proofs.«01_k».proof.Proof.Spec
public import proofs.«01_k».proof.Proof.Gen.ReferenceIdeal

/-!
# The reference's two gathers

One reads the argument at four coordinates, one reads a row of a list at a place of the list. In both the index words
here are in range, so nothing is clamped.
-/

@[expose] public section

namespace Cert.Peaks
open Idealize.ShloMosaic
open Cert.ReferenceIdeal Cert.ReferenceIdeal.Gen

set_option maxRecDepth 16384

/-- The gather of values: at place `j` of image `b` it reads the argument at the four coordinates given there. -/
theorem gather_value {α : Type} (x : S16x1x512x512.Idx → α) (idx : IVec S16x16384x4 32) (b : Fin 16) (j : Fin 16384) (p : S16x1x512x512.Idx)
    (h : ∀ a : Fin 4, (idx (ix3 b j a)).toInt = (p a).val) :
    Host.gather gather_S16x1x512x512_S16x16384x4_S16x16384_n_0123_n_n_0123_2_1111 x idx (ix2 b j) = x p := by
  set d := gather_S16x1x512x512_S16x16384x4_S16x16384_n_0123_n_n_0123_2_1111 with hd
  unfold Host.gather
  refine congrArg x (funext fun a => Fin.ext ?_)
  show d.start (ix2 b j) idx a + d.batchCoord (ix2 b j) a + d.offCoord (ix2 b j) a = (p a).val
  have hm : a ∈ d.startIndexMap := by
    show a ∈ ([0, 1, 2, 3] : List (Fin 4)); fin_cases a <;> decide
  rw [GatherDims.batchCoord_eq_zero _ _ _ List.not_mem_nil, GatherDims.offCoord_eq_zero _ _ _ fun h' => ((GatherDims.mem_sKept _ _).mp h').1 hm]
  unfold GatherDims.start
  rw [dif_pos hm]
  have hs : d.siIdx (ix2 b j) ⟨d.startIndexMap.idxOf a, List.idxOf_lt_length_iff.2 hm⟩ = ix3 b j a := by
    funext e
    apply Fin.ext
    match e with
    | ⟨0, _⟩ => rfl
    | ⟨1, _⟩ => rfl
    | ⟨2, _⟩ =>
      show List.idxOf a ([0, 1, 2, 3] : List (Fin 4)) = a.val
      fin_cases a <;> decide
  rw [hs, h a]
  have hlt := (p a).isLt
  have h1 : d.sliceSizes a = 1 := by
    show (![1, 1, 1, 1] : Fin 4 → Nat) a = 1
    fin_cases a <;> rfl
  rw [h1, Int.toNat_natCast]
  omega

/-- The gather along a list: at place `k` of image `b` it reads the list of image `b` at the place given there. -/
theorem gather_place {α : Type} (x : S16x16384.Idx → α) (idx : IVec S16x16384x1 32) (b : Fin 16) (k q : Fin 16384)
    (h : (idx (ix3 b k 0)).toInt = q.val) :
    Host.gather gather_S16x16384_S16x16384x1_S16x16384_n_1_0_0_1_2_11 x idx (ix2 b k) = x (ix2 b q) := by
  set d := gather_S16x16384_S16x16384x1_S16x16384_n_1_0_0_1_2_11 with hd
  unfold Host.gather
  refine congrArg x (funext fun a => Fin.ext ?_)
  show d.start (ix2 b k) idx a + d.batchCoord (ix2 b k) a + d.offCoord (ix2 b k) a = (ix2 b q a).val
  match a with
  | ⟨0, _⟩ =>
    have hm : (0 : Fin 2) ∈ d.operandBatchingDims := List.mem_singleton.mpr rfl
    show d.start (ix2 b k) idx (0 : Fin 2) + d.batchCoord (ix2 b k) (0 : Fin 2) + d.offCoord (ix2 b k) (0 : Fin 2) = b.val
    rw [GatherDims.start_batching _ _ _ _ hm, GatherDims.offCoord_eq_zero _ _ _ fun h' => ((GatherDims.mem_sKept _ _).mp h').2 hm]
    unfold GatherDims.batchCoord
    rw [dif_pos hm]
    show 0 + b.val + 0 = b.val
    omega
  | ⟨1, _⟩ =>
    have hm : (1 : Fin 2) ∈ d.startIndexMap := List.mem_singleton.mpr rfl
    show d.start (ix2 b k) idx (1 : Fin 2) + d.batchCoord (ix2 b k) (1 : Fin 2) + d.offCoord (ix2 b k) (1 : Fin 2) = q.val
    rw [GatherDims.batchCoord_eq_zero _ _ _ (by show (1 : Fin 2) ∉ ([0] : List (Fin 2)); decide),
      GatherDims.offCoord_eq_zero _ _ _ fun h' => ((GatherDims.mem_sKept _ _).mp h').1 hm]
    unfold GatherDims.start
    rw [dif_pos hm]
    have hs : d.siIdx (ix2 b k) ⟨d.startIndexMap.idxOf (1 : Fin 2), List.idxOf_lt_length_iff.2 hm⟩ = ix3 b k 0 := by
      funext e
      apply Fin.ext
      match e with
      | ⟨0, _⟩ => rfl
      | ⟨1, _⟩ => rfl
      | ⟨2, _⟩ => rfl
    rw [hs, h, Int.toNat_natCast]
    have hlt := q.isLt
    show min q.val (16384 - 1) + 0 + 0 = q.val
    omega

end Cert.Peaks
-- ==== Proof.Scores.lean ====
module

public import proofs.«01_k».proof.Proof.Counts
public import proofs.«01_k».proof.Proof.Gathers

/-!
# The reference's scores

The score of a place of the list is the value of the pixel listed there, and −1 where both coordinates are zero.
The places are then sorted by the negated scores, from low to high, which is by the scores from high to low.
-/

@[expose] public section

namespace Cert.Peaks
open Idealize.ShloMosaic Idealize.ShloMosaic.WordCmp Idealize.ShloMosaic.Routing
open Cert.ReferenceIdeal Cert.ReferenceIdeal.Gen Cert.ReferenceIdeal.Value

set_option maxRecDepth 16384

/-- The conjunction of two bits. -/
theorem fold_two (g : Fin 2 → BitVec 1) : Finset.fold IntOp.andi 1#1 g Finset.univ = IntOp.andi (g 0) (g 1) := by
  have h : (Finset.univ : Finset (Fin 2)) = insert 0 {1} := rfl
  rw [h, Finset.fold_insert (by decide), Finset.fold_singleton]
  generalize g 0 = a
  generalize g 1 = c
  revert a c
  decide

/-- A word of a small number is zero only if the number is. -/
theorem eq_zero_bit {n : Nat} (hn : n < 2 ^ 31) :
    IntOp.cmpi .eq (BitVec.ofNat 32 n) 0#32 = BitVec.ofBool (decide (n = 0)) := by
  rw [cmpi_eq_eq, show (0#32 : BitVec 32) = BitVec.ofNat 32 0 from rfl]
  congr 1
  exact decide_eq_decide.mpr (ofNat_eq_ofNat_iff (by omega) (by omega))

variable (V0 : Valuation τ sig (Elt Ideal)) (b : Fin 16)

/-- The scores of the list. -/
theorem key_apply (j : Fin 16384) :
    (res_main_v85 V0 : FVec Ideal S16x16384 .f32) (ix2 b j)
      = listKey (PeakR V0 b) 262144 (val (image (argR V0) b)) low j.val := by
  unfold res_main_v85
  clean_types
  pointwise
  have hlt := listed_lt (PeakR V0 b) 262144 (by decide) j.val
  refine Eq.trans (congrArg₂ (fun c z => Scalar.select c (Ideal.ofBits .f32 3212836864#32) z)
    (x' := BitVec.ofBool (decide (listed (PeakR V0 b) 262144 j.val = 0)))
    (y' := val (image (argR V0) b) (listed (PeakR V0 b) 262144 j.val)) ?_ ?_) ?_
  · refine (fold_two _).trans ?_
    refine (congrArg₂ IntOp.andi (congrArg (fun w => IntOp.cmpi .eq w 0#32) (colR_apply V0 b j))
      (congrArg (fun w => IntOp.cmpi .eq w 0#32) (rowR_apply V0 b j))).trans ?_
    refine (congrArg₂ IntOp.andi (eq_zero_bit (by omega)) (eq_zero_bit (by omega))).trans ?_
    rw [andi_ofBool]
    refine congrArg BitVec.ofBool ((Bool.decide_and _ _).symm.trans (decide_eq_decide.mpr ?_))
    omega
  · refine gather_value _ _ b j (ix4 b (0 : Fin 1) (row (listed (PeakR V0 b) 262144 j.val)) (col (listed (PeakR V0 b) 262144 j.val))) ?_
    intro a
    match a with
    | ⟨0, _⟩ =>
      show _ = ((b.val : Nat) : Int)
      pointwise
      have e : (res_main_v53 V0 : IVec S16x1 32) (ix2 b 0) = BitVec.ofNat 32 b.val := by
        unfold res_main_v53
        clean_types
        pointwise
      rw [e, wrap_ofNat (by omega), toInt_ofNat_of_lt (by omega)]
    | ⟨1, _⟩ =>
      pointwise
      rfl
    | ⟨2, _⟩ =>
      show _ = ((row (listed (PeakR V0 b) 262144 j.val)).val : Int)
      pointwise
      have e : (res_main_v55 V0 : IVec S16x16384 32) (ix2 b j) = BitVec.ofNat 32 (listed (PeakR V0 b) 262144 j.val / 512) := by
        rw [← rowR_apply]
        unfold res_main_v55
        clean_types
        pointwise
      rw [e, wrap_ofNat (by omega), toInt_ofNat_of_lt (by omega)]
      have : (row (listed (PeakR V0 b) 262144 j.val)).val = listed (PeakR V0 b) 262144 j.val / 512 := by
        show listed (PeakR V0 b) 262144 j.val / 512 % 512 = _
        omega
      rw [this]
    | ⟨3, _⟩ =>
      show _ = ((col (listed (PeakR V0 b) 262144 j.val)).val : Int)
      pointwise
      have e : (res_main_v57 V0 : IVec S16x16384 32) (ix2 b j) = BitVec.ofNat 32 (listed (PeakR V0 b) 262144 j.val % 512) := by
        rw [← colR_apply]
        unfold res_main_v57
        clean_types
        pointwise
      rw [e, wrap_ofNat (by omega), toInt_ofNat_of_lt (by omega)]
      rfl
  · rw [select_decide]
    rfl

/-- Replacing a zero by zero changes nothing. -/
theorem zero_select (a z : EReal) (h : z = 0) :
    Scalar.select (FloatOps.cmpf (F := Ideal) (φ := .f32) .oeq a z) z a = a := by
  rw [Ideal.cmpf_def]
  show Scalar.select (BitVec.ofBool (decide (a = z))) z a = a
  rw [select_decide]
  by_cases h' : a = z
  · rw [if_pos h', h']
  · rw [if_neg h']

/-- No value differs from itself. -/
theorem self_select (a z w : EReal) :
    Scalar.select (FloatOps.cmpf (F := Ideal) (φ := .f32) .une a a) w z = z := by
  rw [Ideal.cmpf_def]
  show Scalar.select (BitVec.ofBool (decide (a ≠ a))) w z = z
  rw [select_decide, if_neg (by simp)]

/-- The sort's comparison is the order of the values. -/
theorem lt_bit (x y : EReal) (u v : BitVec 32) :
    (comparator_f32_i32_d1 (F := Ideal) (x, u) (y, v) == 1#1) = decide (x < y) := by
  unfold comparator_f32_i32_d1
  dsimp only
  rw [self_select, self_select, zero_select _ _ (by simp), zero_select _ _ (by simp), Ideal.cmpfTotal_def]
  show (BitVec.ofBool (decide (x < y)) == 1#1) = decide (x < y)
  cases decide (x < y) <;> rfl

/-- A negated array, at an index. -/
theorem negf_read (x : FVec Ideal S16x16384 .f32) (i : S16x16384.Idx) : Host.negf x i = -x i := rfl

/-- The negated scores, by which the list is sorted. -/
theorem negKey_apply (j : Fin 16384) :
    (res_main_v86 V0 : FVec Ideal S16x16384 .f32) (ix2 b j)
      = -listKey (PeakR V0 b) 262144 (val (image (argR V0) b)) low j.val := by
  unfold res_main_v86
  clean_types
  exact (negf_read _ _).trans (congrArg Neg.neg (key_apply V0 b j))

/-- The places of the list, in their order before the sort. -/
theorem placeWord_apply (j : Fin 16384) :
    (res_main_call9_v0 V0 : IVec S16x16384 32) (ix2 b j) = BitVec.ofNat 32 j.val := by
  unfold res_main_call9_v0
  clean_types
  pointwise

/-- The sort of the list's places by the comparison of words and scores is the sort by score. -/
theorem listSort_eq (x : FVec Ideal S16x16384 .f32) (y : IVec S16x16384 32) (key : Nat → EReal)
    (h : ∀ j : Fin 16384, x (ix2 b j) = -key j.val) (k : Fin 16384) :
    sortedFrom (fun k₁ k₂ : Fin 16384 => comparator_f32_i32_d1 (F := Ideal) (x (ix2 b k₁), y (ix2 b k₁)) (x (ix2 b k₂), y (ix2 b k₂)) == 1#1) k
      = sortedFrom (fun k₁ k₂ : Fin 16384 => decide (key k₂.val < key k₁.val)) k := by
  refine congrArg (fun f => sortedFrom f k) (funext fun k₁ => funext fun k₂ => ?_)
  rw [h k₁, h k₂]
  exact (lt_bit _ _ _ _).trans (decide_eq_decide.mpr EReal.neg_lt_neg_iff)

/-- The order of the list. -/
theorem order_apply (k : Fin 16384) :
    (res_main_v87 V0 : IVec S16x16384 32) (ix2 b k)
      = BitVec.ofNat 32 (listSort (PeakR V0 b) 262144 16384 (val (image (argR V0) b)) low k).val := by
  unfold res_main_v87
  clean_types
  refine (sort2_ix2 _ _ _ b k).2.trans ?_
  refine (placeWord_apply V0 b _).trans ?_
  exact congrArg (fun q : Fin 16384 => BitVec.ofNat 32 q.val) (listSort_eq b _ _ _ (negKey_apply V0 b) k)

end Cert.Peaks
-- ==== Proof.Agree.lean ====
module

public import proofs.«01_k».proof.Proof.Tail

/-!
# The two programs compute the same

The kernel's program sorts all the pixels of an image by key; the reference sorts the list of its peaks. If the list
has room for all the peaks, both show the same coordinates and the same score at each of the first 4096 places.
-/

@[expose] public section

namespace Cert.Peaks
open Idealize.ShloMosaic

/-- The place of the list of peaks that comes at place `k` in the order of scores. -/
noncomputable def listPick (f : Image) (k : Fin 4096) : Fin 16384 :=
  listSort (Peak f) 262144 16384 (val f) low (k.castLE (by decide))

/-- At each place the kernel's results are those of the sorted list. -/
theorem agree (f : Image) (hcap : Nat.count (Peak f) 262144 ≤ 16384) (k : Fin 4096) :
    outCol f k = listed (Peak f) 262144 (listPick f k) % 512 ∧
      outRow f k = listed (Peak f) 262144 (listPick f k) / 512 ∧
      outScore f k = listKey (Peak f) 262144 (val f) low (listPick f k) := by
  have h := sorts_agree (Peak f) 262144 16384 (val f) low (fun i _ hi => low_lt_thr.trans hi.2) hcap (by decide)
    (k.castLE (by decide))
  change (listed (Peak f) 262144 (listPick f k) ≠ 0 → (pick f k).val = listed (Peak f) 262144 (listPick f k)) ∧
    (listed (Peak f) 262144 (listPick f k) = 0 → ¬ (Peak f (pick f k).val ∧ (pick f k).val ≠ 0)) at h
  unfold outCol outRow outScore listKey
  by_cases hq : listed (Peak f) 262144 (listPick f k) = 0
  · have hkey : keyN f (pick f k) = low := if_neg (h.2 hq)
    have hnot : ¬ thr < low := lt_asymm low_lt_thr
    rw [hkey, if_neg hnot, if_neg hnot, if_neg hnot, if_pos hq, hq]
    exact ⟨rfl, rfl, rfl⟩
  · obtain ⟨_, h2, _⟩ := listed_spec (Peak f) 262144 (lt_of_listed_ne_zero (Peak f) 262144 hq)
    have hkey : keyN f (listed (Peak f) 262144 (listPick f k)) = val f (listed (Peak f) 262144 (listPick f k)) := if_pos ⟨h2, hq⟩
    rw [h.1 hq, hkey, if_pos h2.2, if_pos h2.2, if_pos h2.2, if_neg hq]
    exact ⟨rfl, rfl, rfl⟩

end Cert.Peaks
-- ==== Proof.Results.lean ====
module

public import proofs.«01_k».proof.Proof.Scores
public import proofs.«01_k».proof.Proof.Run
public import proofs.«01_k».proof.Proof.Agree
public import proofs.«01_k».proof.Proof.Gen.ReferenceIdeal.Run
public import Idealize.ShloMosaic.Lib.ReduceAll

/-!
# The reference's results

The first 4096 places of the sorted list: at each, the coordinates and the score that the list holds there.
-/

@[expose] public section

namespace Cert.Peaks
open Idealize.ShloMosaic Idealize.ShloMosaic.WordCmp Idealize.ShloMosaic.Routing
open Cert.ReferenceIdeal Cert.ReferenceIdeal.Gen Cert.ReferenceIdeal.Value

set_option maxRecDepth 16384

/-- A read of a list at given places, with another value where a place is out of range. -/
noncomputable abbrev readAt {α : Type} (x out : S16x16384.Idx → α) (idx : IVec S16x16384x1 32) : S16x16384.Idx → α :=
  select (Host.reduce IntOp.andi
      (andi (cmpi .sge idx (broadcastInDim S16x16384x1 ![] bcast_S_S16x16384x1 (constantI S_ 32 0#32)))
        (cmpi .sle idx (broadcastInDim S16x16384x1 ![0, 1, 2] bcast_S1x1x1_S16x16384x1_0_1_2
          (broadcastInDim S1x1x1 ![2] bcast_S1_S1x1x1_2 (constantI S1 32 16383#32)))))
      (constantI S_ 1 1#1) reducesTo_S16x16384x1_S16x16384_d2 h_S_)
    (Host.gather gather_S16x16384_S16x16384x1_S16x16384_n_1_0_0_1_2_11 x idx) out

/-- If no place is out of range it is the read. -/
theorem readAt_apply {α : Type} (x out : S16x16384.Idx → α) (idx : IVec S16x16384x1 32) (σ : Fin 16 → Fin 16384 → Fin 16384)
    (h : ∀ b k, idx (ix3 b k 0) = BitVec.ofNat 32 (σ b k).val) (b : Fin 16) (k : Fin 16384) :
    readAt x out idx (ix2 b k) = x (ix2 b (σ b k)) := by
  have h1 : Host.reduce IntOp.andi
        (andi (cmpi .sge idx (broadcastInDim S16x16384x1 ![] bcast_S_S16x16384x1 (constantI S_ 32 0#32)))
          (cmpi .sle idx (broadcastInDim S16x16384x1 ![0, 1, 2] bcast_S1x1x1_S16x16384x1_0_1_2
            (broadcastInDim S1x1x1 ![2] bcast_S1_S1x1x1_2 (constantI S1 32 16383#32)))))
        (constantI S_ 1 1#1) reducesTo_S16x16384x1_S16x16384_d2 h_S_ (ix2 b k) = 1#1 := by
    refine Host.reduce_andi_one _ _ _ _ _ rfl fun i => ?_
    have hi : i = ix3 (i 0) (i 1) 0 := by
      funext d
      match d with
      | ⟨0, _⟩ => rfl
      | ⟨1, _⟩ => rfl
      | ⟨2, _⟩ => exact Fin.ext (by have := (i 2).isLt; have h2 : (i 2).val < 1 := this; show (i 2).val = 0; omega)
    rw [hi]
    show IntOp.andi (IntOp.cmpi .sge (idx (ix3 (i 0) (i 1) 0)) 0#32) (IntOp.cmpi .sle (idx (ix3 (i 0) (i 1) 0)) 16383#32) = 1#1
    rw [h (i 0) (i 1)]
    have hlt := (σ (i 0) (i 1)).isLt
    generalize (σ (i 0) (i 1)).val = q at hlt
    rw [show (0#32 : BitVec 32) = BitVec.ofNat 32 0 from rfl, show (16383#32 : BitVec 32) = BitVec.ofNat 32 16383 from rfl,
      cmpi_sge_ofNat (by omega) (by omega), cmpi_sle_ofNat (by omega) (by omega), decide_eq_true (by omega), decide_eq_true (by omega)]
    rfl
  have h2 := gather_place x idx b k (σ b k) (by rw [h, toInt_ofNat_of_lt (by omega)])
  show Scalar.select _ _ _ = _
  rw [h1, h2]
  rfl

variable (V0 : Valuation τ sig (Elt Ideal)) (b : Fin 16)

/-- The place of the list that comes at place `k` in the order of scores. -/
noncomputable def order (b : Fin 16) (k : Fin 16384) : Fin 16384 :=
  listSort (PeakR V0 b) 262144 16384 (val (image (argR V0) b)) low k

/-- The index words of the first read. -/
theorem index10 (k : Fin 16384) :
    (res_main_call10_v5 V0 : IVec S16x16384x1 32) (ix3 b k 0) = BitVec.ofNat 32 (order V0 b k).val := by
  unfold res_main_call10_v5
  clean_types
  pointwise
  rw [order_apply, wrap_ofNat (by omega)]
  rfl

/-- The index words of the second read. -/
theorem index11 (k : Fin 16384) :
    (res_main_call11_v5 V0 : IVec S16x16384x1 32) (ix3 b k 0) = BitVec.ofNat 32 (order V0 b k).val := by
  unfold res_main_call11_v5
  clean_types
  pointwise
  rw [order_apply, wrap_ofNat (by omega)]
  rfl

/-- The index words of the third read. -/
theorem index12 (k : Fin 16384) :
    (res_main_call12_v5 V0 : IVec S16x16384x1 32) (ix3 b k 0) = BitVec.ofNat 32 (order V0 b k).val := by
  unfold res_main_call12_v5
  clean_types
  pointwise
  rw [order_apply, wrap_ofNat (by omega)]
  rfl

/-- The columns of the two columns of coordinates set side by side. -/
theorem pair_col (A B : IVec S16x16384 32) (k : Fin 4096) :
    concatenate S16x4096x2 2
      [⟨S16x4096x1, broadcastInDim S16x4096x1 ![0, 1] bcast_S16x4096_S16x4096x1_0_1 (extractStridedSlice S16x4096 ![0, 0] A slices_S16x16384_S16x4096_0_0)⟩,
        ⟨S16x4096x1, broadcastInDim S16x4096x1 ![0, 1] bcast_S16x4096_S16x4096x1_0_1 (extractStridedSlice S16x4096 ![0, 0] B slices_S16x16384_S16x4096_0_0)⟩]
      concatenates_S16x4096x1_S16x4096x1_S16x4096x2_d2 (ix3 b k 0) = A (ix2 b (k.castLE (by decide))) := by
  pointwise
  rfl

/-- The rows. -/
theorem pair_row (A B : IVec S16x16384 32) (k : Fin 4096) :
    concatenate S16x4096x2 2
      [⟨S16x4096x1, broadcastInDim S16x4096x1 ![0, 1] bcast_S16x4096_S16x4096x1_0_1 (extractStridedSlice S16x4096 ![0, 0] A slices_S16x16384_S16x4096_0_0)⟩,
        ⟨S16x4096x1, broadcastInDim S16x4096x1 ![0, 1] bcast_S16x4096_S16x4096x1_0_1 (extractStridedSlice S16x4096 ![0, 0] B slices_S16x16384_S16x4096_0_0)⟩]
      concatenates_S16x4096x1_S16x4096x1_S16x4096x2_d2 (ix3 b k 1) = B (ix2 b (k.castLE (by decide))) := by
  pointwise
  rfl

/-- The first 4096 places of a list. -/
theorem front (A : FVec Ideal S16x16384 .f32) (k : Fin 4096) :
    extractStridedSlice S16x4096 ![0, 0] A slices_S16x16384_S16x4096_0_0 (ix2 b k) = A (ix2 b (k.castLE (by decide))) := by
  pointwise
  rfl

/-- The list's columns, as the first read takes them. -/
theorem listCol (j : Fin 16384) :
    (shapeCast S16x16384 (extractStridedSlice S16x16384x1 ![0, 0, 0] (res_main_v51 V0 : IVec S16x16384x2 32) slices_S16x16384x2_S16x16384x1_0_0_0)
      shapeCasts_S16x16384x1_S16x16384) (ix2 b j) = BitVec.ofNat 32 (listed (PeakR V0 b) 262144 j.val % 512) := by
  rw [← colR_apply]
  pointwise

/-- The list's rows, as the second read takes them. -/
theorem listRow (j : Fin 16384) :
    (shapeCast S16x16384 (extractStridedSlice S16x16384x1 ![0, 0, 1] (res_main_v51 V0 : IVec S16x16384x2 32) slices_S16x16384x2_S16x16384x1_0_0_1)
      shapeCasts_S16x16384x1_S16x16384) (ix2 b j) = BitVec.ofNat 32 (listed (PeakR V0 b) 262144 j.val / 512) := by
  rw [← rowR_apply]
  pointwise

/-- The two columns of coordinates set side by side. -/
noncomputable abbrev pair (A B : IVec S16x16384 32) : IVec S16x4096x2 32 :=
  concatenate S16x4096x2 2
    [⟨S16x4096x1, broadcastInDim S16x4096x1 ![0, 1] bcast_S16x4096_S16x4096x1_0_1 (extractStridedSlice S16x4096 ![0, 0] A slices_S16x16384_S16x4096_0_0)⟩,
      ⟨S16x4096x1, broadcastInDim S16x4096x1 ![0, 1] bcast_S16x4096_S16x4096x1_0_1 (extractStridedSlice S16x4096 ![0, 0] B slices_S16x16384_S16x4096_0_0)⟩]
    concatenates_S16x4096x1_S16x4096x1_S16x4096x2_d2

/-- The reference's coordinates. -/
noncomputable abbrev coordsR : IVec S16x4096x2 32 :=
  pair
    (readAt (shapeCast S16x16384 (extractStridedSlice S16x16384x1 ![0, 0, 0] (res_main_v51 V0 : IVec S16x16384x2 32) slices_S16x16384x2_S16x16384x1_0_0_0)
      shapeCasts_S16x16384x1_S16x16384) (broadcastInDim S16x16384 ![] bcast_S_S16x16384 (constantI S_ 32 2147483648#32)) (res_main_call10_v5 V0))
    (readAt (shapeCast S16x16384 (extractStridedSlice S16x16384x1 ![0, 0, 1] (res_main_v51 V0 : IVec S16x16384x2 32) slices_S16x16384x2_S16x16384x1_0_0_1)
      shapeCasts_S16x16384x1_S16x16384) (broadcastInDim S16x16384 ![] bcast_S_S16x16384 (constantI S_ 32 2147483648#32)) (res_main_call11_v5 V0))

/-- The reference's scores. -/
noncomputable abbrev scoresR : FVec Ideal S16x4096 .f32 :=
  extractStridedSlice S16x4096 ![0, 0]
    (readAt (res_main_v85 V0 : FVec Ideal S16x16384 .f32) (broadcastInDim S16x16384 ![] bcast_S_S16x16384 (constant S_ .f32 0x7FC00000#32))
      (res_main_call12_v5 V0)) slices_S16x16384_S16x4096_0_0

/-- The reference's coordinates are the kernel's. -/
theorem coordsR_eq (hcap : ∀ b : Fin 16, Nat.count (PeakR V0 b) 262144 ≤ 16384) : coordsR V0 = outCoords (argR V0) := by
  refine coords_ext (fun b k => ?_) (fun b k => ?_)
  · have h := agree (image (argR V0) b) (hcap b) k
    have e : coordsR V0 (ix3 b k 0) = BitVec.ofNat 32 (listed (Peak (image (argR V0) b)) 262144 (listPick (image (argR V0) b) k) % 512) :=
      (pair_col b _ _ k).trans ((readAt_apply _ _ _ (order V0) (index10 V0) b _).trans (listCol V0 b _))
    exact e.trans (congrArg (BitVec.ofNat 32) h.1.symm)
  · have h := agree (image (argR V0) b) (hcap b) k
    have e : coordsR V0 (ix3 b k 1) = BitVec.ofNat 32 (listed (Peak (image (argR V0) b)) 262144 (listPick (image (argR V0) b) k) / 512) :=
      (pair_row b _ _ k).trans ((readAt_apply _ _ _ (order V0) (index11 V0) b _).trans (listRow V0 b _))
    exact e.trans (congrArg (BitVec.ofNat 32) h.2.1.symm)

/-- The reference's scores are the kernel's. -/
theorem scoresR_eq (hcap : ∀ b : Fin 16, Nat.count (PeakR V0 b) 262144 ≤ 16384) : scoresR V0 = outScores (argR V0) := by
  refine scores_ext fun b k => ?_
  have h := agree (image (argR V0) b) (hcap b) k
  have e : scoresR V0 (ix2 b k) = listKey (Peak (image (argR V0) b)) 262144 (val (image (argR V0) b)) low (listPick (image (argR V0) b) k) :=
    (front b _ k).trans ((readAt_apply _ _ _ (order V0) (index12 V0) b _).trans (key_apply V0 b _))
  exact e.trans h.2.2.symm

end Cert.Peaks
-- ==== Proof.Capacity.lean ====
module

public import proofs.«01_k».proof.Proof.Mask
public import proofs.«01_k».proof.Proof.Sums
public import proofs.«01_k».proof.Proof.Gen.Pre_within_capacity
public import Idealize.ShloMosaic.Lib.ReduceAll

/-!
# The precondition

What the precondition says, read as mathematics: no image has more than 16384 peaks.
-/

@[expose] public section

namespace Cert.Peaks
open Idealize.ShloMosaic Idealize.ShloMosaic.WordCmp Idealize.ShloMosaic.Routing
open Cert.Pre_within_capacity Cert.Pre_within_capacity.Gen

set_option maxRecDepth 16384

/-- If the precondition holds of the argument, no image has more than 16384 peaks. -/
theorem capacity (X : FVec Ideal S16x1x512x512 .f32) (h : Cert.Pre_within_capacity.fn (F := Ideal) X = fun _ => 1#1) (b : Fin 16) :
    Nat.count (Peak (image X b)) 262144 ≤ 16384 := by
  have h0 := congrFun h ix0
  unfold Cert.Pre_within_capacity.fn at h0
  dsimp only at h0
  have h1 := Host.reduce_andi_all _ _ _ _ _ h0 (ix1 b)
  clear h h0
  generalize hT : @Host.reduce _ _ _ _ _ _ _ _ _ _ = T at h1
  have hc : T (ix1 b) = BitVec.ofNat 32 (Nat.count (Peak (image X b)) 262144) := by
    rw [← hT]
    refine row_count (by decide) _ _ _ _ b (Peak (image X b)) fun i => ?_
    pointwise
    exact peak_bits X (broadcastInDim S_ ![] Facts.bcast_S_S_ (constant S_ FTy.f32 4286578688#32)) (fun i => ofBits_bot) _ _ b i _ _ _ _
  have h2 : IntOp.cmpi .sle (T (ix1 b)) 16384#32 = 1#1 := h1
  have hle : Nat.count (Peak (image X b)) 262144 ≤ 262144 := Nat.count_le _
  rw [hc, show (16384#32 : BitVec 32) = BitVec.ofNat 32 16384 from rfl, cmpi_sle_ofNat (by omega) (by omega)] at h2
  by_contra hn
  rw [decide_eq_false hn] at h2
  exact absurd h2 (by decide)

end Cert.Peaks
-- ==== Proof.lean ====
module

public import proofs.«01_k».proof.Defs
public import proofs.«01_k».proof.Proof.Gen.Kernel.Frame
public import proofs.«01_k».proof.Proof.Gen.KernelIdeal.Frame
public import proofs.«01_k».proof.Proof.Run
public import proofs.«01_k».proof.Proof.Results
public import proofs.«01_k».proof.Proof.Capacity

/-!
# The certificate

The claims of `Defs.lean`, put together. The frames come from the programs' runs; the equation of results is
`kernel_run` (what the kernel's program returns) against `coordsR_eq` and `scoresR_eq` (what the reference returns is
the same, if the precondition holds).
-/

@[expose] public section

namespace Cert.Proof

open Idealize.ShloMosaic Idealize.ShloMosaic.StableHlo Idealize.SL.Sem

/-- The reference runs, its argument is unchanged, and it has no semaphore that could end at anything but zero. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

/-- Run in exact arithmetic on the same images, none with more than 16384 peaks, the kernel's program and the
    reference return the same coordinates and the same scores. -/
theorem equal_results : Cert.algebraic_KernelIdeal_ReferenceIdeal_pre_within_capacity := fun m g m' g' hpre hag => by
  have hX : ∀ c, Cert.Peaks.argR (launchContents m' c) = Cert.Peaks.argK m c := fun c => hag c
  have hcap : ∀ c (b : Fin 16), Nat.count (Cert.Peaks.PeakR (launchContents m' c) b) 262144 ≤ 16384 := fun c b => by
    show Nat.count (Cert.Peaks.Peak (Cert.Peaks.image (Cert.Peaks.argR (launchContents m' c)) b)) 262144 ≤ 16384
    rw [hX c]
    exact Cert.Peaks.capacity _ (hpre c) b
  refine ⟨fun c => Cert.Peaks.outCoords (Cert.Peaks.argK m c), fun c => Cert.Peaks.outScores (Cert.Peaks.argK m c),
    Cert.Peaks.kernel_run m g, ?_⟩
  refine (θ_run Cert.ReferenceIdeal.defs _ _).mono (fun r h c => ⟨(h c).1.trans ?_, (h c).2.1.trans ?_, (h c).2.2⟩)
    (Cert.ReferenceIdeal.Value.run (F := Ideal) m' g')
  · exact (Cert.Peaks.coordsR_eq (launchContents m' c) (hcap c)).trans (congrArg Cert.Peaks.outCoords (hX c))
  · exact (Cert.Peaks.scoresR_eq (launchContents m' c) (hcap c)).trans (congrArg Cert.Peaks.outScores (hX c))

/-- All the claims. -/
theorem claim : Cert.Claim := ⟨Cert.Kernel.Gen.facts, Cert.KernelIdeal.Gen.facts, Cert.ReferenceIdeal.Gen.facts, Cert.Pre_within_capacity.Gen.facts,
  fun m g _ => Cert.Kernel.Gen.frame m g,
  fun m g _ => Cert.KernelIdeal.Gen.frame m g,
  fun m g _ => Cert.KernelIdeal.Gen.frame m g,
  fun m g _ => reference_quiescent m g,
  fun m g _ => reference_quiescent m g,
  trivial,
  equal_results⟩

end Cert.Proof
